-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384 : Shape := ⟨1, ![16384]⟩
abbrev S_ : Shape := ⟨0, ![]⟩
abbrev S1000 : Shape := ⟨1, ![1000]⟩
abbrev S1 : Shape := ⟨1, ![1]⟩

class Facts : Prop where
  bcast_S_S16384 : S_.BroadcastsInDim S16384 (![] : Fin 0 → Fin S16384.rank)
  reducesTo_S16384_S_d0 : S16384.ReducesTo [0] S_
  h_S_ : 0 < S_.numel
  bcast_S_S1000 : S_.BroadcastsInDim S1000 (![] : Fin 0 → Fin S1000.rank)
  reducesTo_S1000_S_d0 : S1000.ReducesTo [0] S_
  slices_S1000_S1_0 : S1000.Slices ![0] S1
  shapeCasts_S1_S_ : S1.ShapeCasts S_

variable [Facts]

def fn_part1 {F : FTy → Type} [FloatOps F] (main_arg3 : FVec F S1000 .f32) (main_v15 : IVec S_ 1) (main_v16 : FVec F S1 .f32) : IVec S_ 1 :=
  let main_v17 : FVec F S_ .f32 := shapeCast S_ main_v16 shapeCasts_S1_S_
  let main_v18 : FVec F S1000 .f32 := broadcastInDim S1000 ![] bcast_S_S1000 main_v17
  let main_v19 : IVec S1000 1 := cmpf .oeq main_arg3 main_v18
  let main_c_5 : IVec S_ 1 := constantI S_ 1 1#1
  let main_v20 : IVec S_ 1 := (fun x v => Host.reduce IntOp.andi x v reducesTo_S1000_S_d0 h_S_) main_v19 main_c_5
  let main_v21 : IVec S_ 1 := andi main_v15 main_v20
  main_v21

def fn {F : FTy → Type} [FloatOps F] (main_arg0 : IVec S16384 32) (main_arg1 : FVec F S16384 .f32) (main_arg2 : IVec S_ 32) (main_arg3 : FVec F S1000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S16384 .f32 := Host.absf main_arg1
  let main_cst : FVec F S_ .f32 := constant S_ .f32 0x7F800000#32
  let main_v7 : FVec F S16384 .f32 := broadcastInDim S16384 ![] bcast_S_S16384 main_cst
  let main_v8 : IVec S16384 1 := cmpf .olt main_v6 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v5 main_v9
  let main_v11 : FVec F S1000 .f32 := Host.absf main_arg3
  let main_cst_3 : FVec F S_ .f32 := constant S_ .f32 0x7F800000#32
  let main_v12 : FVec F S1000 .f32 := broadcastInDim S1000 ![] bcast_S_S1000 main_cst_3
  let main_v13 : IVec S1000 1 := cmpf .olt main_v11 main_v12
  let main_c_4 : IVec S_ 1 := constantI S_ 1 1#1
  let main_v14 : IVec S_ 1 := (fun x v => Host.reduce IntOp.andi x v reducesTo_S1000_S_d0 h_S_) main_v13 main_c_4
  let main_v15 : IVec S_ 1 := andi main_v10 main_v14
  let main_v16 : FVec F S1 .f32 := (extractStridedSlice S1 ![0] · slices_S1000_S1_0) main_arg3
  fn_part1 (F := F) main_arg3 main_v15 main_v16
-- ==== Kernel.lean ====
abbrev S16384 : Shape := ⟨1, ![16384]⟩
abbrev S_ : Shape := ⟨0, ![]⟩
abbrev S1000 : Shape := ⟨1, ![1000]⟩
abbrev S4x128x128 : Shape := ⟨3, ![4, 128, 128]⟩
abbrev S128x128 : Shape := ⟨2, ![128, 128]⟩
abbrev S1 : Shape := ⟨1, ![1]⟩
abbrev S1x1 : Shape := ⟨2, ![1, 1]⟩
abbrev S1x128x128 : Shape := ⟨3, ![1, 128, 128]⟩

abbrev nBuf : Space → Nat
  | .hbm => 11
  | .vmem => 5
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S_, .i32⟩
  | .hbm, ⟨3, _⟩ => ⟨S1000, .f32⟩
  | .hbm, ⟨4, _⟩ => ⟨S4x128x128, .i32⟩
  | .hbm, ⟨5, _⟩ => ⟨S128x128, .i32⟩
  | .hbm, ⟨6, _⟩ => ⟨S128x128, .f32⟩
  | .hbm, ⟨7, _⟩ => ⟨S1, .f32⟩
  | .hbm, ⟨8, _⟩ => ⟨S1x1, .f32⟩
  | .hbm, ⟨9, _⟩ => ⟨S128x128, .i32⟩
  | .hbm, ⟨10, _⟩ => ⟨S16384, .i32⟩
  | .local _ .vmem, ⟨0, _⟩ => ⟨S128x128, .i32⟩
  | .local _ .vmem, ⟨1, _⟩ => ⟨S128x128, .f32⟩
  | .local _ .vmem, ⟨2, _⟩ => ⟨S1x1, .f32⟩
  | .local _ .vmem, ⟨3, _⟩ => ⟨S4x128x128, .i32⟩
  | .local _ .vmem, ⟨4, _⟩ => ⟨S128x128, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384 : Shape := ⟨1, ![16384]⟩
abbrev S_ : Shape := ⟨0, ![]⟩
abbrev S1000 : Shape := ⟨1, ![1000]⟩
abbrev S16384x1 : Shape := ⟨2, ![16384, 1]⟩
abbrev S1x1000 : Shape := ⟨2, ![1, 1000]⟩
abbrev S16384x1000 : Shape := ⟨2, ![16384, 1000]⟩
abbrev S1 : Shape := ⟨1, ![1]⟩
abbrev S2 : Shape := ⟨1, ![2]⟩

abbrev nBuf : Space → Nat
  | .hbm => 310
  | .vmem => 0
  | .smem => 0
  | _ => 0

abbrev hbmTy0_0 (i : Nat) : BufTy := match i % 128 with
  | 0 => ⟨S16384, .i32⟩
  | 1 => ⟨S16384, .f32⟩
  | 2 => ⟨S_, .i32⟩
  | 3 => ⟨S1000, .f32⟩
  | 4 => ⟨S16384x1, .i32⟩
  | 5 => ⟨S1x1000, .i32⟩
  | 6 => ⟨S16384x1000, .i32⟩
  | 7 => ⟨S16384x1000, .i32⟩
  | 8 => ⟨S16384x1000, .i1⟩
  | 9 => ⟨S16384x1000, .f32⟩
  | 10 => ⟨S16384x1, .f32⟩
  | 11 => ⟨S1x1000, .f32⟩
  | 12 => ⟨S16384x1000, .f32⟩
  | 13 => ⟨S16384x1000, .f32⟩
  | 14 => ⟨S16384x1000, .f32⟩
  | 15 => ⟨S_, .f32⟩
  | 16 => ⟨S16384x1, .f32⟩
  | 17 => ⟨S16384x1, .f32⟩
  | 18 => ⟨S16384x1000, .f32⟩
  | 19 => ⟨S16384x1000, .f32⟩
  | 20 => ⟨S16384x1000, .f32⟩
  | 21 => ⟨S_, .f32⟩
  | 22 => ⟨S_, .f32⟩
  | 23 => ⟨S16384x1000, .f32⟩
  | 24 => ⟨S16384x1000, .f32⟩
  | 25 => ⟨S16384x1000, .f32⟩
  | 26 => ⟨S_, .i32⟩
  | 27 => ⟨S_, .i32⟩
  | 28 => ⟨S_, .i32⟩
  | 29 => ⟨S_, .i32⟩
  | 30 => ⟨S1, .i32⟩
  | 31 => ⟨S_, .i32⟩
  | 32 => ⟨S_, .i32⟩
  | 33 => ⟨S_, .i32⟩
  | 34 => ⟨S1, .i32⟩
  | 35 => ⟨S2, .i32⟩
  | 36 => ⟨S1, .i32⟩
  | 37 => ⟨S_, .i32⟩
  | 38 => ⟨S1, .i32⟩
  | 39 => ⟨S_, .i32⟩
  | 40 => ⟨S16384x1000, .i64⟩
  | 41 => ⟨S16384x1000, .i64⟩
  | 42 => ⟨S_, .i64⟩
  | 43 => ⟨S16384x1000, .i64⟩
  | 44 => ⟨S16384x1000, .i64⟩
  | 45 => ⟨S_, .i64⟩
  | 46 => ⟨S16384x1000, .i64⟩
  | 47 => ⟨S16384x1000, .i64⟩
  | 48 => ⟨S16384x1000, .i64⟩
  | 49 => ⟨S_, .i64⟩
  | 50 => ⟨S16384x1000, .i64⟩
  | 51 => ⟨S16384x1000, .i64⟩
  | 52 => ⟨S16384x1000, .i32⟩
  | 53 => ⟨S16384x1000, .i32⟩
  | 54 => ⟨S_, .i32⟩
  | 55 => ⟨S_, .i32⟩
  | 56 => ⟨S_, .i32⟩
  | 57 => ⟨S16384x1000, .i32⟩
  | 58 => ⟨S16384x1000, .i32⟩
  | 59 => ⟨S16384x1000, .i32⟩
  | 60 => ⟨S16384x1000, .i32⟩
  | 61 => ⟨S16384x1000, .i32⟩
  | 62 => ⟨S_, .i32⟩
  | 63 => ⟨S16384x1000, .i32⟩
  | 64 => ⟨S16384x1000, .i32⟩
  | 65 => ⟨S_, .i32⟩
  | 66 => ⟨S16384x1000, .i32⟩
  | 67 => ⟨S16384x1000, .i32⟩
  | 68 => ⟨S16384x1000, .i32⟩
  | 69 => ⟨S16384x1000, .i32⟩
  | 70 => ⟨S16384x1000, .i32⟩
  | 71 => ⟨S_, .i32⟩
  | 72 => ⟨S16384x1000, .i32⟩
  | 73 => ⟨S16384x1000, .i32⟩
  | 74 => ⟨S_, .i32⟩
  | 75 => ⟨S16384x1000, .i32⟩
  | 76 => ⟨S16384x1000, .i32⟩
  | 77 => ⟨S16384x1000, .i32⟩
  | 78 => ⟨S16384x1000, .i32⟩
  | 79 => ⟨S16384x1000, .i32⟩
  | 80 => ⟨S_, .i32⟩
  | 81 => ⟨S16384x1000, .i32⟩
  | 82 => ⟨S16384x1000, .i32⟩
  | 83 => ⟨S_, .i32⟩
  | 84 => ⟨S16384x1000, .i32⟩
  | 85 => ⟨S16384x1000, .i32⟩
  | 86 => ⟨S16384x1000, .i32⟩
  | 87 => ⟨S16384x1000, .i32⟩
  | 88 => ⟨S16384x1000, .i32⟩
  | 89 => ⟨S_, .i32⟩
  | 90 => ⟨S16384x1000, .i32⟩
  | 91 => ⟨S16384x1000, .i32⟩
  | 92 => ⟨S_, .i32⟩
  | 93 => ⟨S16384x1000, .i32⟩
  | 94 => ⟨S16384x1000, .i32⟩
  | 95 => ⟨S16384x1000, .i32⟩
  | 96 => ⟨S16384x1000, .i32⟩
  | 97 => ⟨S16384x1000, .i32⟩
  | 98 => ⟨S16384x1000, .i32⟩
  | 99 => ⟨S16384x1000, .i32⟩
  | 100 => ⟨S16384x1000, .i32⟩
  | 101 => ⟨S_, .i32⟩
  | 102 => ⟨S16384x1000, .i32⟩
  | 103 => ⟨S16384x1000, .i32⟩
  | 104 => ⟨S16384x1000, .i32⟩
  | 105 => ⟨S_, .i32⟩
  | 106 => ⟨S16384x1000, .i32⟩
  | 107 => ⟨S16384x1000, .i32⟩
  | 108 => ⟨S_, .i32⟩
  | 109 => ⟨S16384x1000, .i32⟩
  | 110 => ⟨S16384x1000, .i32⟩
  | 111 => ⟨S16384x1000, .i32⟩
  | 112 => ⟨S16384x1000, .i32⟩
  | 113 => ⟨S16384x1000, .i32⟩
  | 114 => ⟨S_, .i32⟩
  | 115 => ⟨S16384x1000, .i32⟩
  | 116 => ⟨S16384x1000, .i32⟩
  | 117 => ⟨S_, .i32⟩
  | 118 => ⟨S16384x1000, .i32⟩
  | 119 => ⟨S16384x1000, .i32⟩
  | 120 => ⟨S16384x1000, .i32⟩
  | 121 => ⟨S16384x1000, .i32⟩
  | 122 => ⟨S16384x1000, .i32⟩
  | 123 => ⟨S_, .i32⟩
  | 124 => ⟨S16384x1000, .i32⟩
  | 125 => ⟨S16384x1000, .i32⟩
  | 126 => ⟨S_, .i32⟩
  | 127 => ⟨S16384x1000, .i32⟩
  | _ => ⟨S16384, .i32⟩

abbrev hbmTy0_1 (i : Nat) : BufTy := match i % 128 with
  | 0 => ⟨S16384x1000, .i32⟩
  | 1 => ⟨S16384x1000, .i32⟩
  | 2 => ⟨S16384x1000, .i32⟩
  | 3 => ⟨S16384x1000, .i32⟩
  | 4 => ⟨S_, .i32⟩
  | 5 => ⟨S16384x1000, .i32⟩
  | 6 => ⟨S16384x1000, .i32⟩
  | 7 => ⟨S_, .i32⟩
  | 8 => ⟨S16384x1000, .i32⟩
  | 9 => ⟨S16384x1000, .i32⟩
  | 10 => ⟨S16384x1000, .i32⟩
  | 11 => ⟨S16384x1000, .i32⟩
  | 12 => ⟨S16384x1000, .i32⟩
  | 13 => ⟨S16384x1000, .i32⟩
  | 14 => ⟨S16384x1000, .i32⟩
  | 15 => ⟨S16384x1000, .i32⟩
  | 16 => ⟨S_, .i32⟩
  | 17 => ⟨S16384x1000, .i32⟩
  | 18 => ⟨S16384x1000, .i32⟩
  | 19 => ⟨S16384x1000, .i32⟩
  | 20 => ⟨S_, .i32⟩
  | 21 => ⟨S16384x1000, .i32⟩
  | 22 => ⟨S16384x1000, .i32⟩
  | 23 => ⟨S_, .i32⟩
  | 24 => ⟨S16384x1000, .i32⟩
  | 25 => ⟨S16384x1000, .i32⟩
  | 26 => ⟨S16384x1000, .i32⟩
  | 27 => ⟨S16384x1000, .i32⟩
  | 28 => ⟨S16384x1000, .i32⟩
  | 29 => ⟨S_, .i32⟩
  | 30 => ⟨S16384x1000, .i32⟩
  | 31 => ⟨S16384x1000, .i32⟩
  | 32 => ⟨S_, .i32⟩
  | 33 => ⟨S16384x1000, .i32⟩
  | 34 => ⟨S16384x1000, .i32⟩
  | 35 => ⟨S16384x1000, .i32⟩
  | 36 => ⟨S16384x1000, .i32⟩
  | 37 => ⟨S16384x1000, .i32⟩
  | 38 => ⟨S_, .i32⟩
  | 39 => ⟨S16384x1000, .i32⟩
  | 40 => ⟨S16384x1000, .i32⟩
  | 41 => ⟨S_, .i32⟩
  | 42 => ⟨S16384x1000, .i32⟩
  | 43 => ⟨S16384x1000, .i32⟩
  | 44 => ⟨S16384x1000, .i32⟩
  | 45 => ⟨S16384x1000, .i32⟩
  | 46 => ⟨S16384x1000, .i32⟩
  | 47 => ⟨S_, .i32⟩
  | 48 => ⟨S16384x1000, .i32⟩
  | 49 => ⟨S16384x1000, .i32⟩
  | 50 => ⟨S_, .i32⟩
  | 51 => ⟨S16384x1000, .i32⟩
  | 52 => ⟨S16384x1000, .i32⟩
  | 53 => ⟨S16384x1000, .i32⟩
  | 54 => ⟨S16384x1000, .i32⟩
  | 55 => ⟨S16384x1000, .i32⟩
  | 56 => ⟨S16384x1000, .i32⟩
  | 57 => ⟨S16384x1000, .i32⟩
  | 58 => ⟨S16384x1000, .i32⟩
  | 59 => ⟨S_, .i32⟩
  | 60 => ⟨S16384x1000, .i32⟩
  | 61 => ⟨S16384x1000, .i32⟩
  | 62 => ⟨S16384x1000, .i32⟩
  | 63 => ⟨S_, .i32⟩
  | 64 => ⟨S16384x1000, .i32⟩
  | 65 => ⟨S16384x1000, .i32⟩
  | 66 => ⟨S_, .i32⟩
  | 67 => ⟨S16384x1000, .i32⟩
  | 68 => ⟨S16384x1000, .i32⟩
  | 69 => ⟨S16384x1000, .i32⟩
  | 70 => ⟨S16384x1000, .i32⟩
  | 71 => ⟨S16384x1000, .i32⟩
  | 72 => ⟨S_, .i32⟩
  | 73 => ⟨S16384x1000, .i32⟩
  | 74 => ⟨S16384x1000, .i32⟩
  | 75 => ⟨S_, .i32⟩
  | 76 => ⟨S16384x1000, .i32⟩
  | 77 => ⟨S16384x1000, .i32⟩
  | 78 => ⟨S16384x1000, .i32⟩
  | 79 => ⟨S16384x1000, .i32⟩
  | 80 => ⟨S16384x1000, .i32⟩
  | 81 => ⟨S_, .i32⟩
  | 82 => ⟨S16384x1000, .i32⟩
  | 83 => ⟨S16384x1000, .i32⟩
  | 84 => ⟨S_, .i32⟩
  | 85 => ⟨S16384x1000, .i32⟩
  | 86 => ⟨S16384x1000, .i32⟩
  | 87 => ⟨S16384x1000, .i32⟩
  | 88 => ⟨S16384x1000, .i32⟩
  | 89 => ⟨S16384x1000, .i32⟩
  | 90 => ⟨S_, .i32⟩
  | 91 => ⟨S16384x1000, .i32⟩
  | 92 => ⟨S16384x1000, .i32⟩
  | 93 => ⟨S_, .i32⟩
  | 94 => ⟨S16384x1000, .i32⟩
  | 95 => ⟨S16384x1000, .i32⟩
  | 96 => ⟨S16384x1000, .i32⟩
  | 97 => ⟨S16384x1000, .i32⟩
  | 98 => ⟨S16384x1000, .i32⟩
  | 99 => ⟨S16384x1000, .i32⟩
  | 100 => ⟨S16384x1000, .i32⟩
  | 101 => ⟨S16384x1000, .i32⟩
  | 102 => ⟨S_, .i32⟩
  | 103 => ⟨S16384x1000, .i32⟩
  | 104 => ⟨S16384x1000, .i32⟩
  | 105 => ⟨S16384x1000, .i32⟩
  | 106 => ⟨S_, .i32⟩
  | 107 => ⟨S16384x1000, .i32⟩
  | 108 => ⟨S16384x1000, .i32⟩
  | 109 => ⟨S_, .i32⟩
  | 110 => ⟨S16384x1000, .i32⟩
  | 111 => ⟨S16384x1000, .i32⟩
  | 112 => ⟨S16384x1000, .i32⟩
  | 113 => ⟨S16384x1000, .i32⟩
  | 114 => ⟨S16384x1000, .i32⟩
  | 115 => ⟨S_, .i32⟩
  | 116 => ⟨S16384x1000, .i32⟩
  | 117 => ⟨S16384x1000, .i32⟩
  | 118 => ⟨S_, .i32⟩
  | 119 => ⟨S16384x1000, .i32⟩
  | 120 => ⟨S16384x1000, .i32⟩
  | 121 => ⟨S16384x1000, .i32⟩
  | 122 => ⟨S16384x1000, .i32⟩
  | 123 => ⟨S16384x1000, .i32⟩
  | 124 => ⟨S_, .i32⟩
  | 125 => ⟨S16384x1000, .i32⟩
  | 126 => ⟨S16384x1000, .i32⟩
  | 127 => ⟨S_, .i32⟩
  | _ => ⟨S16384, .i32⟩

abbrev hbmTy0_2 (i : Nat) : BufTy := match i % 128 with
  | 0 => ⟨S16384x1000, .i32⟩
  | 1 => ⟨S16384x1000, .i32⟩
  | 2 => ⟨S16384x1000, .i32⟩
  | 3 => ⟨S16384x1000, .i32⟩
  | 4 => ⟨S16384x1000, .i32⟩
  | 5 => ⟨S_, .i32⟩
  | 6 => ⟨S16384x1000, .i32⟩
  | 7 => ⟨S16384x1000, .i32⟩
  | 8 => ⟨S_, .i32⟩
  | 9 => ⟨S16384x1000, .i32⟩
  | 10 => ⟨S16384x1000, .i32⟩
  | 11 => ⟨S16384x1000, .i32⟩
  | 12 => ⟨S16384x1000, .i32⟩
  | 13 => ⟨S16384x1000, .i32⟩
  | 14 => ⟨S16384x1000, .i32⟩
  | 15 => ⟨S16384x1000, .i32⟩
  | 16 => ⟨S16384x1000, .i32⟩
  | 17 => ⟨S_, .i32⟩
  | 18 => ⟨S16384x1000, .i32⟩
  | 19 => ⟨S16384x1000, .i32⟩
  | 20 => ⟨S16384x1000, .i32⟩
  | 21 => ⟨S_, .i32⟩
  | 22 => ⟨S16384x1000, .i32⟩
  | 23 => ⟨S16384x1000, .i32⟩
  | 24 => ⟨S_, .i32⟩
  | 25 => ⟨S16384x1000, .i32⟩
  | 26 => ⟨S16384x1000, .i32⟩
  | 27 => ⟨S16384x1000, .f32⟩
  | 28 => ⟨S_, .f32⟩
  | 29 => ⟨S16384x1000, .f32⟩
  | 30 => ⟨S16384x1000, .f32⟩
  | 31 => ⟨S_, .f32⟩
  | 32 => ⟨S16384x1000, .f32⟩
  | 33 => ⟨S16384x1000, .f32⟩
  | 34 => ⟨S_, .f32⟩
  | 35 => ⟨S16384x1000, .f32⟩
  | 36 => ⟨S16384x1000, .f32⟩
  | 37 => ⟨S_, .f32⟩
  | 38 => ⟨S16384x1000, .f32⟩
  | 39 => ⟨S16384x1000, .f32⟩
  | 40 => ⟨S16384x1000, .f32⟩
  | 41 => ⟨S16384x1000, .f32⟩
  | 42 => ⟨S16384x1000, .f32⟩
  | 43 => ⟨S16384x1000, .f32⟩
  | 44 => ⟨S16384x1000, .f32⟩
  | 45 => ⟨S16384x1000, .i32⟩
  | 46 => ⟨S_, .f32⟩
  | 47 => ⟨S_, .i32⟩
  | 48 => ⟨S16384, .f32⟩
  | 49 => ⟨S16384, .i32⟩
  | 50 => ⟨S_, .f32⟩
  | 51 => ⟨S16384, .f32⟩
  | 52 => ⟨S16384, .i1⟩
  | 53 => ⟨S16384, .i32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_c_0 : Ref sig .tc := ⟨.hbm, 62, rfl⟩
abbrev main_call2_v7 : Ref sig .tc := ⟨.hbm, 63, rfl⟩
abbrev main_call2_v8 : Ref sig .tc := ⟨.hbm, 64, rfl⟩
abbrev main_call2_c_1 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_c_2 : Ref sig .tc := ⟨.hbm, 71, rfl⟩
abbrev main_call2_v14 : Ref sig .tc := ⟨.hbm, 72, rfl⟩
abbrev main_call2_v15 : Ref sig .tc := ⟨.hbm, 73, rfl⟩
abbrev main_call2_c_3 : Ref sig .tc := ⟨.hbm, 74, rfl⟩
abbrev main_call2_v16 : Ref sig .tc := ⟨.hbm, 75, rfl⟩
abbrev main_call2_v17 : Ref sig .tc := ⟨.hbm, 76, rfl⟩
abbrev main_call2_v18 : Ref sig .tc := ⟨.hbm, 77, rfl⟩
abbrev main_call2_v19 : Ref sig .tc := ⟨.hbm, 78, rfl⟩
abbrev main_call2_v20 : Ref sig .tc := ⟨.hbm, 79, rfl⟩
abbrev main_call2_c_4 : Ref sig .tc := ⟨.hbm, 80, rfl⟩
abbrev main_call2_v21 : Ref sig .tc := ⟨.hbm, 81, rfl⟩
abbrev main_call2_v22 : Ref sig .tc := ⟨.hbm, 82, rfl⟩
abbrev main_call2_c_5 : Ref sig .tc := ⟨.hbm, 83, rfl⟩
abbrev main_call2_v23 : Ref sig .tc := ⟨.hbm, 84, rfl⟩
abbrev main_call2_v24 : Ref sig .tc := ⟨.hbm, 85, rfl⟩
abbrev main_call2_v25 : Ref sig .tc := ⟨.hbm, 86, rfl⟩
abbrev main_call2_v26 : Ref sig .tc := ⟨.hbm, 87, rfl⟩
abbrev main_call2_v27 : Ref sig .tc := ⟨.hbm, 88, rfl⟩
abbrev main_call2_c_6 : Ref sig .tc := ⟨.hbm, 89, rfl⟩
abbrev main_call2_v28 : Ref sig .tc := ⟨.hbm, 90, rfl⟩
abbrev main_call2_v29 : Ref sig .tc := ⟨.hbm, 91, rfl⟩
abbrev main_call2_c_7 : Ref sig .tc := ⟨.hbm, 92, rfl⟩
abbrev main_call2_v30 : Ref sig .tc := ⟨.hbm, 93, rfl⟩
abbrev main_call2_v31 : Ref sig .tc := ⟨.hbm, 94, rfl⟩
abbrev main_call2_v32 : Ref sig .tc := ⟨.hbm, 95, rfl⟩
abbrev main_call2_v33 : Ref sig .tc := ⟨.hbm, 96, rfl⟩
abbrev main_call2_v34 : Ref sig .tc := ⟨.hbm, 97, rfl⟩
abbrev main_call2_v35 : Ref sig .tc := ⟨.hbm, 98, rfl⟩
abbrev main_call2_v36 : Ref sig .tc := ⟨.hbm, 99, rfl⟩
abbrev main_call2_v37 : Ref sig .tc := ⟨.hbm, 100, rfl⟩
abbrev main_call2_c_8 : Ref sig .tc := ⟨.hbm, 101, rfl⟩
abbrev main_call2_v38 : Ref sig .tc := ⟨.hbm, 102, rfl⟩
abbrev main_call2_v39 : Ref sig .tc := ⟨.hbm, 103, rfl⟩
abbrev main_call2_v40 : Ref sig .tc := ⟨.hbm, 104, rfl⟩
abbrev main_call2_c_9 : Ref sig .tc := ⟨.hbm, 105, rfl⟩
abbrev main_call2_v41 : Ref sig .tc := ⟨.hbm, 106, rfl⟩
abbrev main_call2_v42 : Ref sig .tc := ⟨.hbm, 107, rfl⟩
abbrev main_call2_c_10 : Ref sig .tc := ⟨.hbm, 108, rfl⟩
abbrev main_call2_v43 : Ref sig .tc := ⟨.hbm, 109, rfl⟩
abbrev main_call2_v44 : Ref sig .tc := ⟨.hbm, 110, rfl⟩
abbrev main_call2_v45 : Ref sig .tc := ⟨.hbm, 111, rfl⟩
abbrev main_call2_v46 : Ref sig .tc := ⟨.hbm, 112, rfl⟩
abbrev main_call2_v47 : Ref sig .tc := ⟨.hbm, 113, rfl⟩
abbrev main_call2_c_11 : Ref sig .tc := ⟨.hbm, 114, rfl⟩
abbrev main_call2_v48 : Ref sig .tc := ⟨.hbm, 115, rfl⟩
abbrev main_call2_v49 : Ref sig .tc := ⟨.hbm, 116, rfl⟩
abbrev main_call2_c_12 : Ref sig .tc := ⟨.hbm, 117, rfl⟩
abbrev main_call2_v50 : Ref sig .tc := ⟨.hbm, 118, rfl⟩
abbrev main_call2_v51 : Ref sig .tc := ⟨.hbm, 119, rfl⟩
abbrev main_call2_v52 : Ref sig .tc := ⟨.hbm, 120, rfl⟩
abbrev main_call2_v53 : Ref sig .tc := ⟨.hbm, 121, rfl⟩
abbrev main_call2_v54 : Ref sig .tc := ⟨.hbm, 122, rfl⟩
abbrev main_call2_c_13 : Ref sig .tc := ⟨.hbm, 123, rfl⟩
abbrev main_call2_v55 : Ref sig .tc := ⟨.hbm, 124, rfl⟩
abbrev main_call2_v56 : Ref sig .tc := ⟨.hbm, 125, rfl⟩
abbrev main_call2_c_14 : Ref sig .tc := ⟨.hbm, 126, rfl⟩
abbrev main_call2_v57 : Ref sig .tc := ⟨.hbm, 127, rfl⟩
abbrev main_call2_v58 : Ref sig .tc := ⟨.hbm, 128, rfl⟩
abbrev main_call2_v59 : Ref sig .tc := ⟨.hbm, 129, rfl⟩
abbrev main_call2_v60 : Ref sig .tc := ⟨.hbm, 130, rfl⟩
abbrev main_call2_v61 : Ref sig .tc := ⟨.hbm, 131, rfl⟩
abbrev main_call2_c_15 : Ref sig .tc := ⟨.hbm, 132, rfl⟩
abbrev main_call2_v62 : Ref sig .tc := ⟨.hbm, 133, rfl⟩
abbrev main_call2_v63 : Ref sig .tc := ⟨.hbm, 134, rfl⟩
abbrev main_call2_c_16 : Ref sig .tc := ⟨.hbm, 135, rfl⟩
abbrev main_call2_v64 : Ref sig .tc := ⟨.hbm, 136, rfl⟩
abbrev main_call2_v65 : Ref sig .tc := ⟨.hbm, 137, rfl⟩
abbrev main_call2_v66 : Ref sig .tc := ⟨.hbm, 138, rfl⟩
abbrev main_call2_v67 : Ref sig .tc := ⟨.hbm, 139, rfl⟩
abbrev main_call2_v68 : Ref sig .tc := ⟨.hbm, 140, rfl⟩
abbrev main_call2_v69 : Ref sig .tc := ⟨.hbm, 141, rfl⟩
abbrev main_call2_v70 : Ref sig .tc := ⟨.hbm, 142, rfl⟩
abbrev main_call2_v71 : Ref sig .tc := ⟨.hbm, 143, rfl⟩
abbrev main_call2_c_17 : Ref sig .tc := ⟨.hbm, 144, rfl⟩
abbrev main_call2_v72 : Ref sig .tc := ⟨.hbm, 145, rfl⟩
abbrev main_call2_v73 : Ref sig .tc := ⟨.hbm, 146, rfl⟩
abbrev main_call2_v74 : Ref sig .tc := ⟨.hbm, 147, rfl⟩
abbrev main_call2_c_18 : Ref sig .tc := ⟨.hbm, 148, rfl⟩
abbrev main_call2_v75 : Ref sig .tc := ⟨.hbm, 149, rfl⟩
abbrev main_call2_v76 : Ref sig .tc := ⟨.hbm, 150, rfl⟩
abbrev main_call2_c_19 : Ref sig .tc := ⟨.hbm, 151, rfl⟩
abbrev main_call2_v77 : Ref sig .tc := ⟨.hbm, 152, rfl⟩
abbrev main_call2_v78 : Ref sig .tc := ⟨.hbm, 153, rfl⟩
abbrev main_call2_v79 : Ref sig .tc := ⟨.hbm, 154, rfl⟩
abbrev main_call2_v80 : Ref sig .tc := ⟨.hbm, 155, rfl⟩
abbrev main_call2_v81 : Ref sig .tc := ⟨.hbm, 156, rfl⟩
abbrev main_call2_c_20 : Ref sig .tc := ⟨.hbm, 157, rfl⟩
abbrev main_call2_v82 : Ref sig .tc := ⟨.hbm, 158, rfl⟩
abbrev main_call2_v83 : Ref sig .tc := ⟨.hbm, 159, rfl⟩
abbrev main_call2_c_21 : Ref sig .tc := ⟨.hbm, 160, rfl⟩
abbrev main_call2_v84 : Ref sig .tc := ⟨.hbm, 161, rfl⟩
abbrev main_call2_v85 : Ref sig .tc := ⟨.hbm, 162, rfl⟩
abbrev main_call2_v86 : Ref sig .tc := ⟨.hbm, 163, rfl⟩
abbrev main_call2_v87 : Ref sig .tc := ⟨.hbm, 164, rfl⟩
abbrev main_call2_v88 : Ref sig .tc := ⟨.hbm, 165, rfl⟩
abbrev main_call2_c_22 : Ref sig .tc := ⟨.hbm, 166, rfl⟩
abbrev main_call2_v89 : Ref sig .tc := ⟨.hbm, 167, rfl⟩
abbrev main_call2_v90 : Ref sig .tc := ⟨.hbm, 168, rfl⟩
abbrev main_call2_c_23 : Ref sig .tc := ⟨.hbm, 169, rfl⟩
abbrev main_call2_v91 : Ref sig .tc := ⟨.hbm, 170, rfl⟩
abbrev main_call2_v92 : Ref sig .tc := ⟨.hbm, 171, rfl⟩
abbrev main_call2_v93 : Ref sig .tc := ⟨.hbm, 172, rfl⟩
abbrev main_call2_v94 : Ref sig .tc := ⟨.hbm, 173, rfl⟩
abbrev main_call2_v95 : Ref sig .tc := ⟨.hbm, 174, rfl⟩
abbrev main_call2_c_24 : Ref sig .tc := ⟨.hbm, 175, rfl⟩
abbrev main_call2_v96 : Ref sig .tc := ⟨.hbm, 176, rfl⟩
abbrev main_call2_v97 : Ref sig .tc := ⟨.hbm, 177, rfl⟩
abbrev main_call2_c_25 : Ref sig .tc := ⟨.hbm, 178, rfl⟩
abbrev main_call2_v98 : Ref sig .tc := ⟨.hbm, 179, rfl⟩
abbrev main_call2_v99 : Ref sig .tc := ⟨.hbm, 180, rfl⟩
abbrev main_call2_v100 : Ref sig .tc := ⟨.hbm, 181, rfl⟩
abbrev main_call2_v101 : Ref sig .tc := ⟨.hbm, 182, rfl⟩
abbrev main_call2_v102 : Ref sig .tc := ⟨.hbm, 183, rfl⟩
abbrev main_call2_v103 : Ref sig .tc := ⟨.hbm, 184, rfl⟩
abbrev main_call2_v104 : Ref sig .tc := ⟨.hbm, 185, rfl⟩
abbrev main_call2_v105 : Ref sig .tc := ⟨.hbm, 186, rfl⟩
abbrev main_call2_c_26 : Ref sig .tc := ⟨.hbm, 187, rfl⟩
abbrev main_call2_v106 : Ref sig .tc := ⟨.hbm, 188, rfl⟩
abbrev main_call2_v107 : Ref sig .tc := ⟨.hbm, 189, rfl⟩
abbrev main_call2_v108 : Ref sig .tc := ⟨.hbm, 190, rfl⟩
abbrev main_call2_c_27 : Ref sig .tc := ⟨.hbm, 191, rfl⟩
abbrev main_call2_v109 : Ref sig .tc := ⟨.hbm, 192, rfl⟩
abbrev main_call2_v110 : Ref sig .tc := ⟨.hbm, 193, rfl⟩
abbrev main_call2_c_28 : Ref sig .tc := ⟨.hbm, 194, rfl⟩
abbrev main_call2_v111 : Ref sig .tc := ⟨.hbm, 195, rfl⟩
abbrev main_call2_v112 : Ref sig .tc := ⟨.hbm, 196, rfl⟩
abbrev main_call2_v113 : Ref sig .tc := ⟨.hbm, 197, rfl⟩
abbrev main_call2_v114 : Ref sig .tc := ⟨.hbm, 198, rfl⟩
abbrev main_call2_v115 : Ref sig .tc := ⟨.hbm, 199, rfl⟩
abbrev main_call2_c_29 : Ref sig .tc := ⟨.hbm, 200, rfl⟩
abbrev main_call2_v116 : Ref sig .tc := ⟨.hbm, 201, rfl⟩
abbrev main_call2_v117 : Ref sig .tc := ⟨.hbm, 202, rfl⟩
abbrev main_call2_c_30 : Ref sig .tc := ⟨.hbm, 203, rfl⟩
abbrev main_call2_v118 : Ref sig .tc := ⟨.hbm, 204, rfl⟩
abbrev main_call2_v119 : Ref sig .tc := ⟨.hbm, 205, rfl⟩
abbrev main_call2_v120 : Ref sig .tc := ⟨.hbm, 206, rfl⟩
abbrev main_call2_v121 : Ref sig .tc := ⟨.hbm, 207, rfl⟩
abbrev main_call2_v122 : Ref sig .tc := ⟨.hbm, 208, rfl⟩
abbrev main_call2_c_31 : Ref sig .tc := ⟨.hbm, 209, rfl⟩
abbrev main_call2_v123 : Ref sig .tc := ⟨.hbm, 210, rfl⟩
abbrev main_call2_v124 : Ref sig .tc := ⟨.hbm, 211, rfl⟩
abbrev main_call2_c_32 : Ref sig .tc := ⟨.hbm, 212, rfl⟩
abbrev main_call2_v125 : Ref sig .tc := ⟨.hbm, 213, rfl⟩
abbrev main_call2_v126 : Ref sig .tc := ⟨.hbm, 214, rfl⟩
abbrev main_call2_v127 : Ref sig .tc := ⟨.hbm, 215, rfl⟩
abbrev main_call2_v128 : Ref sig .tc := ⟨.hbm, 216, rfl⟩
abbrev main_call2_v129 : Ref sig .tc := ⟨.hbm, 217, rfl⟩
abbrev main_call2_c_33 : Ref sig .tc := ⟨.hbm, 218, rfl⟩
abbrev main_call2_v130 : Ref sig .tc := ⟨.hbm, 219, rfl⟩
abbrev main_call2_v131 : Ref sig .tc := ⟨.hbm, 220, rfl⟩
abbrev main_call2_c_34 : Ref sig .tc := ⟨.hbm, 221, rfl⟩
abbrev main_call2_v132 : Ref sig .tc := ⟨.hbm, 222, rfl⟩
abbrev main_call2_v133 : Ref sig .tc := ⟨.hbm, 223, rfl⟩
abbrev main_call2_v134 : Ref sig .tc := ⟨.hbm, 224, rfl⟩
abbrev main_call2_v135 : Ref sig .tc := ⟨.hbm, 225, rfl⟩
abbrev main_call2_v136 : Ref sig .tc := ⟨.hbm, 226, rfl⟩
abbrev main_call2_v137 : Ref sig .tc := ⟨.hbm, 227, rfl⟩
abbrev main_call2_v138 : Ref sig .tc := ⟨.hbm, 228, rfl⟩
abbrev main_call2_v139 : Ref sig .tc := ⟨.hbm, 229, rfl⟩
abbrev main_call2_c_35 : Ref sig .tc := ⟨.hbm, 230, rfl⟩
abbrev main_call2_v140 : Ref sig .tc := ⟨.hbm, 231, rfl⟩
abbrev main_call2_v141 : Ref sig .tc := ⟨.hbm, 232, rfl⟩
abbrev main_call2_v142 : Ref sig .tc := ⟨.hbm, 233, rfl⟩
abbrev main_call2_c_36 : Ref sig .tc := ⟨.hbm, 234, rfl⟩
abbrev main_call2_v143 : Ref sig .tc := ⟨.hbm, 235, rfl⟩
abbrev main_call2_v144 : Ref sig .tc := ⟨.hbm, 236, rfl⟩
abbrev main_call2_c_37 : Ref sig .tc := ⟨.hbm, 237, rfl⟩
abbrev main_call2_v145 : Ref sig .tc := ⟨.hbm, 238, rfl⟩
abbrev main_call2_v146 : Ref sig .tc := ⟨.hbm, 239, rfl⟩
abbrev main_call2_v147 : Ref sig .tc := ⟨.hbm, 240, rfl⟩
abbrev main_call2_v148 : Ref sig .tc := ⟨.hbm, 241, rfl⟩
abbrev main_call2_v149 : Ref sig .tc := ⟨.hbm, 242, rfl⟩
abbrev main_call2_c_38 : Ref sig .tc := ⟨.hbm, 243, rfl⟩
abbrev main_call2_v150 : Ref sig .tc := ⟨.hbm, 244, rfl⟩
abbrev main_call2_v151 : Ref sig .tc := ⟨.hbm, 245, rfl⟩
abbrev main_call2_c_39 : Ref sig .tc := ⟨.hbm, 246, rfl⟩
abbrev main_call2_v152 : Ref sig .tc := ⟨.hbm, 247, rfl⟩
abbrev main_call2_v153 : Ref sig .tc := ⟨.hbm, 248, rfl⟩
abbrev main_call2_v154 : Ref sig .tc := ⟨.hbm, 249, rfl⟩
abbrev main_call2_v155 : Ref sig .tc := ⟨.hbm, 250, rfl⟩
abbrev main_call2_v156 : Ref sig .tc := ⟨.hbm, 251, rfl⟩
abbrev main_call2_c_40 : Ref sig .tc := ⟨.hbm, 252, rfl⟩
abbrev main_call2_v157 : Ref sig .tc := ⟨.hbm, 253, rfl⟩
abbrev main_call2_v158 : Ref sig .tc := ⟨.hbm, 254, rfl⟩
abbrev main_call2_c_41 : Ref sig .tc := ⟨.hbm, 255, rfl⟩
abbrev main_call2_v159 : Ref sig .tc := ⟨.hbm, 256, rfl⟩
abbrev main_call2_v160 : Ref sig .tc := ⟨.hbm, 257, rfl⟩
abbrev main_call2_v161 : Ref sig .tc := ⟨.hbm, 258, rfl⟩
abbrev main_call2_v162 : Ref sig .tc := ⟨.hbm, 259, rfl⟩
abbrev main_call2_v163 : Ref sig .tc := ⟨.hbm, 260, rfl⟩
abbrev main_call2_c_42 : Ref sig .tc := ⟨.hbm, 261, rfl⟩
abbrev main_call2_v164 : Ref sig .tc := ⟨.hbm, 262, rfl⟩
abbrev main_call2_v165 : Ref sig .tc := ⟨.hbm, 263, rfl⟩
abbrev main_call2_c_43 : Ref sig .tc := ⟨.hbm, 264, rfl⟩
abbrev main_call2_v166 : Ref sig .tc := ⟨.hbm, 265, rfl⟩
abbrev main_call2_v167 : Ref sig .tc := ⟨.hbm, 266, rfl⟩
abbrev main_call2_v168 : Ref sig .tc := ⟨.hbm, 267, rfl⟩
abbrev main_call2_v169 : Ref sig .tc := ⟨.hbm, 268, rfl⟩
abbrev main_call2_v170 : Ref sig .tc := ⟨.hbm, 269, rfl⟩
abbrev main_v35_0 : Ref sig .tc := ⟨.hbm, 270, rfl⟩
abbrev main_call2_v172 : Ref sig .tc := ⟨.hbm, 271, rfl⟩
abbrev main_call2_v173 : Ref sig .tc := ⟨.hbm, 272, rfl⟩
abbrev main_call2_c_44 : Ref sig .tc := ⟨.hbm, 273, rfl⟩
abbrev main_call2_v174 : Ref sig .tc := ⟨.hbm, 274, rfl⟩
abbrev main_v35_1 : Ref sig .tc := ⟨.hbm, 275, rfl⟩
abbrev main_v36 : Ref sig .tc := ⟨.hbm, 276, rfl⟩
abbrev main_c_6 : Ref sig .tc := ⟨.hbm, 277, rfl⟩
abbrev main_v37 : Ref sig .tc := ⟨.hbm, 278, rfl⟩
abbrev main_v38 : Ref sig .tc := ⟨.hbm, 279, rfl⟩
abbrev main_c_7 : Ref sig .tc := ⟨.hbm, 280, rfl⟩
abbrev main_v39 : Ref sig .tc := ⟨.hbm, 281, rfl⟩
abbrev main_v40 : Ref sig .tc := ⟨.hbm, 282, rfl⟩
abbrev main_v41 : Ref sig .tc := ⟨.hbm, 283, rfl⟩
abbrev main_cst_8 : Ref sig .tc := ⟨.hbm, 284, rfl⟩
abbrev main_v42 : Ref sig .tc := ⟨.hbm, 285, rfl⟩
abbrev main_v43 : Ref sig .tc := ⟨.hbm, 286, rfl⟩
abbrev main_cst_9 : Ref sig .tc := ⟨.hbm, 287, rfl⟩
abbrev main_v44 : Ref sig .tc := ⟨.hbm, 288, rfl⟩
abbrev main_v45 : Ref sig .tc := ⟨.hbm, 289, rfl⟩
abbrev main_cst_10 : Ref sig .tc := ⟨.hbm, 290, rfl⟩
abbrev main_v46 : Ref sig .tc := ⟨.hbm, 291, rfl⟩
abbrev main_v47 : Ref sig .tc := ⟨.hbm, 292, rfl⟩
abbrev main_cst_11 : Ref sig .tc := ⟨.hbm, 293, rfl⟩
abbrev main_v48 : Ref sig .tc := ⟨.hbm, 294, rfl⟩
abbrev main_v49 : Ref sig .tc := ⟨.hbm, 295, rfl⟩
abbrev main_v50 : Ref sig .tc := ⟨.hbm, 296, rfl⟩
abbrev main_v51 : Ref sig .tc := ⟨.hbm, 297, rfl⟩
abbrev main_v52 : Ref sig .tc := ⟨.hbm, 298, rfl⟩
abbrev main_v53 : Ref sig .tc := ⟨.hbm, 299, rfl⟩
abbrev main_v54 : Ref sig .tc := ⟨.hbm, 300, rfl⟩
abbrev main_call3_v0 : Ref sig .tc := ⟨.hbm, 301, rfl⟩
abbrev main_call3_cst : Ref sig .tc := ⟨.hbm, 302, rfl⟩
abbrev main_call3_c : Ref sig .tc := ⟨.hbm, 303, rfl⟩
abbrev main_call3_v1_0 : Ref sig .tc := ⟨.hbm, 304, rfl⟩
abbrev main_v55 : Ref sig .tc := ⟨.hbm, 305, rfl⟩
abbrev main_cst_12 : Ref sig .tc := ⟨.hbm, 306, rfl⟩
abbrev main_v56 : Ref sig .tc := ⟨.hbm, 307, rfl⟩
abbrev main_v57 : Ref sig .tc := ⟨.hbm, 308, rfl⟩
abbrev main_v58 : Ref sig .tc := ⟨.hbm, 309, rfl⟩

abbrev nD : Nat := 1
abbrev τ : Topo := Topo.v7x

variable {F : FTy → Type} [FloatOps F]
-- ==== Proof.RefOps.lean ====
/- The reference's host operations, listed in the order in which its @main runs them (a called function's operations stand in its call's place), and the facts the run needs: @main is the sequence of the list, and each operation touches TensorCore buffers only. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v19`, named. It packs its operands into a list of dependent pairs
    whose shapes a later argument's type mentions, so `simp` cannot rewrite an operand where it stands; applied by
    name, the operands are plain arguments, which the window lemmas below rewrite before the name unfolds. -/
def fn_main_v19 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 306 (window `main_part0`). -/
abbrev ops_part0_0 : List (HloOp τ sig (Elt F)) :=
  [ TRef.unary (TRef.of (T := ⟨S16384, .i32⟩) main_arg0) (TRef.of (T := ⟨S16384x1, .i32⟩) main_call0_v0) (broadcastInDim S16384x1 ![0] bcast_S16384_S16384x1_0),
    TRef.nullary (TRef.of (T := ⟨S1x1000, .i32⟩) main_call0_v1) (iotaInDim S1x1000 32 1),
    TRef.unary (TRef.of (T := ⟨S16384x1, .i32⟩) main_call0_v0) (TRef.of (T := ⟨S16384x1000, .i32⟩) main_call0_v2) (broadcastInDim S16384x1000 ![0, 1] bcast_S16384x1_S16384x1000_0_1),
    TRef.unary (TRef.of (T := ⟨S1x1000, .i32⟩) main_call0_v1) (TRef.of (T := ⟨S16384x1000, .i32⟩) main_call0_v3) (broadcastInDim S16384x1000 ![0, 1] bcast_S1x1000_S16384x1000_0_1),
    TRef.binary (TRef.of (T := ⟨S16384x1000, .i32⟩) main_call0_v2) (TRef.of (T := ⟨S16384x1000, .i32⟩) main_call0_v3) (TRef.of (T := ⟨S16384x1000, .i1⟩) main_call0_v4) (cmpi .eq),
    TRef.unary (TRef.of (T := ⟨S16384x1000, .i1⟩) main_call0_v4) (TRef.of (T := ⟨S16384x1000, .f32⟩) main_v0) (uitofp .f32),
    unary main_arg1 main_v1 (broadcastInDim S16384x1 ![0] bcast_S16384_S16384x1_0 : (⟨S16384, .f32⟩ : BufTy).Contents (Elt F) → (⟨S16384x1, .f32⟩ : BufTy).Contents (Elt F)),
    unary main_arg3 main_v2 (broadcastInDim S1x1000 ![1] bcast_S1000_S1x1000_1 : (⟨S1000, .f32⟩ : BufTy).Contents (Elt F) → (⟨S1x1000, .f32⟩ : BufTy).Contents (Elt F)),
    unary main_v2 main_v3 (broadcastInDim S16384x1000 ![0, 1] bcast_S1x1000_S16384x1000_0_1 : (⟨S1x1000, .f32⟩ : BufTy).Contents (Elt F) → (⟨S16384x1000, .f32⟩ : BufTy).Contents (Elt F)),
    unary main_v1 main_v4 (broadcastInDim S16384x1000 ![0, 1] bcast_S16384x1_S16384x1000_0_1 : (⟨S16384x1, .f32⟩ : BufTy).Contents (Elt F) → (⟨S16384x1000, .f32⟩ : BufTy).Contents (Elt F)),
    binary main_v4 main_v0 main_v5 (mulf : (⟨S16384x1000, .f32⟩ : BufTy).Contents (Elt F) → (⟨S16384x1000, .f32⟩ : BufTy).Contents (Elt F) → (⟨S16384x1000, .f32⟩ : BufTy).Contents (Elt F)),
    nullary main_cst (constant S_ .f32 0x3F800000#32),
    unary main_cst main_v6 (broadcastInDim S16384x1 ![] bcast_S_S16384x1 : (⟨S_, .f32⟩ : BufTy).Contents (Elt F) → (⟨S16384x1, .f32⟩ : BufTy).Contents (Elt F)),
    binary main_v6 main_v1 main_v7 (subf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x1000 ![0, 1] bcast_S16384x1_S16384x1000_0_1 : (⟨S16384x1, .f32⟩ : BufTy).Contents (Elt F) → (⟨S16384x1000, .f32⟩ : BufTy).Contents (Elt F)),
    binary main_v8 main_v3 main_v9 (mulf : (⟨S16384x1000, .f32⟩ : BufTy).Contents (Elt F) → (⟨S16384x1000, .f32⟩ : BufTy).Contents (Elt F) → (⟨S16384x1000, .f32⟩ : BufTy).Contents (Elt F)),
    binary main_v5 main_v9 main_v10 (addf : (⟨S16384x1000, .f32⟩ : BufTy).Contents (Elt F) → (⟨S16384x1000, .f32⟩ : BufTy).Contents (Elt F) → (⟨S16384x1000, .f32⟩ : BufTy).Contents (Elt F)),
    nullary main_cst_0 (constant S_ .f32 0x0DA24260#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S16384x1000, .f32⟩) main_call1_v1) (broadcastInDim S16384x1000 ![] bcast_S_S16384x1000),
    TRef.binary (TRef.of (T := ⟨S16384x1000, .f32⟩) main_call1_v1) (TRef.of (T := ⟨S16384x1000, .f32⟩) main_v10) (TRef.of (T := ⟨S16384x1000, .f32⟩) main_v11) maximumf,
    unary main_v11 main_v12 (Host.log : (⟨S16384x1000, .f32⟩ : BufTy).Contents (Elt F) → (⟨S16384x1000, .f32⟩ : BufTy).Contents (Elt F)),
    nullary main_c (constantI S_ 32 42#32),
    nullary main_c_1 (constantI S_ 32 32#32),
    binary main_c main_c_1 main_v13 (Host.shrui : (⟨S_, .i32⟩ : BufTy).Contents (Elt F) → (⟨S_, .i32⟩ : BufTy).Contents (Elt F) → (⟨S_, .i32⟩ : BufTy).Contents (Elt F)),
    unary main_v13 main_v14 (id : (⟨S_, .i32⟩ : BufTy).Contents (Elt F) → (⟨S_, .i32⟩ : BufTy).Contents (Elt F)),
    unary main_v14 main_v15 (broadcastInDim S1 ![] bcast_S_S1 : (⟨S_, .i32⟩ : BufTy).Contents (Elt F) → (⟨S1, .i32⟩ : BufTy).Contents (Elt F)),
    nullary main_c_2 (constantI S_ 32 4294967295#32),
    binary main_c main_c_2 main_v16 (andi : (⟨S_, .i32⟩ : BufTy).Contents (Elt F) → (⟨S_, .i32⟩ : BufTy).Contents (Elt F) → (⟨S_, .i32⟩ : BufTy).Contents (Elt F)),
    unary main_v16 main_v17 (id : (⟨S_, .i32⟩ : BufTy).Contents (Elt F) → (⟨S_, .i32⟩ : BufTy).Contents (Elt F)) ]

/-- @main's operations 31 … 60 of 306 (window `main_part0`). -/
abbrev ops_part0_1 : List (HloOp τ sig (Elt F)) :=
  [ unary main_v17 main_v18 (broadcastInDim S1 ![] bcast_S_S1 : (⟨S_, .i32⟩ : BufTy).Contents (Elt F) → (⟨S1, .i32⟩ : BufTy).Contents (Elt F)),
    binary main_v15 main_v18 main_v19 (fn_main_v19 (F := F)),
    unary main_v19 main_v20 ((extractStridedSlice S1 ![0] · slices_S2_S1_0) : (⟨S2, .i32⟩ : BufTy).Contents (Elt F) → (⟨S1, .i32⟩ : BufTy).Contents (Elt F)),
    reshape main_v20 main_v21 (rfl : (.i32 : EltTy) = .i32) shapeCasts_S1_S_,
    unary main_v19 main_v22 ((extractStridedSlice S1 ![1] · slices_S2_S1_1) : (⟨S2, .i32⟩ : BufTy).Contents (Elt F) → (⟨S1, .i32⟩ : BufTy).Contents (Elt F)),
    reshape main_v22 main_v23 (rfl : (.i32 : EltTy) = .i32) shapeCasts_S1_S_,
    nullary main_v24 (iotaInDim S16384x1000 64 0),
    nullary main_v25 (iotaInDim S16384x1000 64 1),
    nullary main_c_3 (constantI S_ 64 1000#64),
    unary main_c_3 main_v26 (broadcastInDim S16384x1000 ![] bcast_S_S16384x1000 : (⟨S_, .i64⟩ : BufTy).Contents (Elt F) → (⟨S16384x1000, .i64⟩ : BufTy).Contents (Elt F)),
    binary main_v26 main_v24 main_v27 (muli : (⟨S16384x1000, .i64⟩ : BufTy).Contents (Elt F) → (⟨S16384x1000, .i64⟩ : BufTy).Contents (Elt F) → (⟨S16384x1000, .i64⟩ : BufTy).Contents (Elt F)),
    nullary main_c_4 (constantI S_ 64 1#64),
    unary main_c_4 main_v28 (broadcastInDim S16384x1000 ![] bcast_S_S16384x1000 : (⟨S_, .i64⟩ : BufTy).Contents (Elt F) → (⟨S16384x1000, .i64⟩ : BufTy).Contents (Elt F)),
    binary main_v28 main_v25 main_v29 (muli : (⟨S16384x1000, .i64⟩ : BufTy).Contents (Elt F) → (⟨S16384x1000, .i64⟩ : BufTy).Contents (Elt F) → (⟨S16384x1000, .i64⟩ : BufTy).Contents (Elt F)),
    binary main_v27 main_v29 main_v30 (addi : (⟨S16384x1000, .i64⟩ : BufTy).Contents (Elt F) → (⟨S16384x1000, .i64⟩ : BufTy).Contents (Elt F) → (⟨S16384x1000, .i64⟩ : BufTy).Contents (Elt F)),
    nullary main_c_5 (constantI S_ 64 32#64),
    unary main_c_5 main_v31 (broadcastInDim S16384x1000 ![] bcast_S_S16384x1000 : (⟨S_, .i64⟩ : BufTy).Contents (Elt F) → (⟨S16384x1000, .i64⟩ : BufTy).Contents (Elt F)),
    binary main_v30 main_v31 main_v32 (Host.shrui : (⟨S16384x1000, .i64⟩ : BufTy).Contents (Elt F) → (⟨S16384x1000, .i64⟩ : BufTy).Contents (Elt F) → (⟨S16384x1000, .i64⟩ : BufTy).Contents (Elt F)),
    unary main_v30 main_v33 ((trunci 32 · natLt_32_64) : (⟨S16384x1000, .i64⟩ : BufTy).Contents (Elt F) → (⟨S16384x1000, .i32⟩ : BufTy).Contents (Elt F)),
    unary main_v32 main_v34 ((trunci 32 · natLt_32_64) : (⟨S16384x1000, .i64⟩ : BufTy).Contents (Elt F) → (⟨S16384x1000, .i32⟩ : BufTy).Contents (Elt F)),
    TRef.binary (TRef.of (T := ⟨S_, .i32⟩) main_v21) (TRef.of (T := ⟨S_, .i32⟩) main_v23) (TRef.of (T := ⟨S_, .i32⟩) main_call2_v0) xori,
    TRef.nullary (TRef.of (T := ⟨S_, .i32⟩) main_call2_c) (constantI S_ 32 466688986#32),
    TRef.binary (TRef.of (T := ⟨S_, .i32⟩) main_call2_v0) (TRef.of (T := ⟨S_, .i32⟩) main_call2_c) (TRef.of (T := ⟨S_, .i32⟩) main_call2_v1) xori,
    TRef.unary (TRef.of (T := ⟨S_, .i32⟩) main_v21) (TRef.of (T := ⟨S16384x1000, .i32⟩) main_call2_v2) (broadcastInDim S16384x1000 ![] bcast_S_S16384x1000),
    TRef.binary (TRef.of (T := ⟨S16384x1000, .i32⟩) main_v34) (TRef.of (T := ⟨S16384x1000, .i32⟩) main_call2_v2) (TRef.of (T := ⟨S16384x1000, .i32⟩) main_call2_v3) addi,
    TRef.unary (TRef.of (T := ⟨S_, .i32⟩) main_v23) (TRef.of (T := ⟨S16384x1000, .i32⟩) main_call2_v4) (broadcastInDim S16384x1000 ![] bcast_S_S16384x1000),
    TRef.binary (TRef.of (T := ⟨S16384x1000, .i32⟩) main_v33) (TRef.of (T := ⟨S16384x1000, .i32⟩) main_call2_v4) (TRef.of (T := ⟨S16384x1000, .i32⟩) main_call2_v5) addi,
    TRef.binary (TRef.of (T := ⟨S16384x1000, .i32⟩) main_call2_v3) (TRef.of (T := ⟨S16384x1000, .i32⟩) main_call2_v5) (TRef.of (T := ⟨S16384x1000, .i32⟩) main_call2_v6) addi,
    TRef.nullary (TRef.of (T := ⟨S_, .i32⟩) main_call2_c_0) (constantI S_ 32 13#32),
    TRef.unary (TRef.of (T := ⟨S_, .i32⟩) main_call2_c_0) (TRef.of (T := ⟨S16384x1000, .i32⟩) main_call2_v7) (broadcastInDim S16384x1000 ![] bcast_S_S16384x1000) ]

/-- @main's operations 61 … 90 of 306 (window `main_part0`). -/
abbrev ops_part0_2 : List (HloOp τ sig (Elt F)) :=
  [ TRef.binary (TRef.of (T := ⟨S16384x1000, .i32⟩) main_call2_v5) (TRef.of (T := ⟨S16384x1000, .i32⟩) main_call2_v7) (TRef.of (T := ⟨S16384x1000, .i32⟩) main_call2_v8) Host.shli,
    TRef.nullary (TRef.of (T := ⟨S_, .i32⟩) main_call2_c_1) (constantI S_ 32 19#32),
    TRef.unary (TRef.of (T := ⟨S_, .i32⟩) main_call2_c_1) (TRef.of (T := ⟨S16384x1000, .i32⟩) main_call2_v9) (broadcastInDim S16384x1000 ![] bcast_S_S16384x1000),
    TRef.binary (TRef.of (T := ⟨S16384x1000, .i32⟩) main_call2_v5) (TRef.of (T := ⟨S16384x1000, .i32⟩) main_call2_v9) (TRef.of (T := ⟨S16384x1000, .i32⟩) main_call2_v10) Host.shrui,
    TRef.binary (TRef.of (T := ⟨S16384x1000, .i32⟩) main_call2_v8) (TRef.of (T := ⟨S16384x1000, .i32⟩) main_call2_v10) (TRef.of (T := ⟨S16384x1000, .i32⟩) main_call2_v11) ori,
    TRef.binary (TRef.of (T := ⟨S16384x1000, .i32⟩) main_call2_v6) (TRef.of (T := ⟨S16384x1000, .i32⟩) main_call2_v11) (TRef.of (T := ⟨S16384x1000, .i32⟩) main_call2_v12) xori,
    TRef.binary (TRef.of (T := ⟨S16384x1000, .i32⟩) main_call2_v6) (TRef.of (T := ⟨S16384x1000, .i32⟩) main_call2_v12) (TRef.of (T := ⟨S16384x1000, .i32⟩) main_call2_v13) addi,
    TRef.nullary (TRef.of (T := ⟨S_, .i32⟩) main_call2_c_2) (constantI S_ 32 15#32),
    TRef.unary (TRef.of (T := ⟨S_, .i32⟩) main_call2_c_2) (TRef.of (T := ⟨S16384x1000, .i32⟩) main_call2_v14) (broadcastInDim S16384x1000 ![] bcast_S_S16384x1000),
    TRef.binary (TRef.of (T := ⟨S16384x1000, .i32⟩) main_call2_v12) (TRef.of (T := ⟨S16384x1000, .i32⟩) main_call2_v14) (TRef.of (T := ⟨S16384x1000, .i32⟩) main_call2_v15) Host.shli,
    TRef.nullary (TRef.of (T := ⟨S_, .i32⟩) main_call2_c_3) (constantI S_ 32 17#32),
    TRef.unary (TRef.of (T := ⟨S_, .i32⟩) main_call2_c_3) (TRef.of (T := ⟨S16384x1000, .i32⟩) main_call2_v16) (broadcastInDim S16384x1000 ![] bcast_S_S16384x1000),
    TRef.binary (TRef.of (T := ⟨S16384x1000, .i32⟩) main_call2_v12) (TRef.of (T := ⟨S16384x1000, .i32⟩) main_call2_v16) (TRef.of (T := ⟨S16384x1000, .i32⟩) main_call2_v17) Host.shrui,
    TRef.binary (TRef.of (T := ⟨S16384x1000, .i32⟩) main_call2_v15) (TRef.of (T := ⟨S16384x1000, .i32⟩) main_call2_v17) (TRef.of (T := ⟨S16384x1000, .i32⟩) main_call2_v18) ori,
    TRef.binary (TRef.of (T := ⟨S16384x1000, .i32⟩) main_call2_v13) (TRef.of (T := ⟨S16384x1000, .i32⟩) main_call2_v18) (TRef.of (T := ⟨S16384x1000, .i32⟩) main_call2_v19) xori,
    TRef.binary (TRef.of (T := ⟨S16384x1000, .i32⟩) main_call2_v13) (TRef.of (T := ⟨S16384x1000, .i32⟩) main_call2_v19) (TRef.of (T := ⟨S16384x1000, .i32⟩) main_call2_v20) addi,
    TRef.nullary (TRef.of (T := ⟨S_, .i32⟩) main_call2_c_4) (constantI S_ 32 26#32),
    TRef.unary (TRef.of (T := ⟨S_, .i32⟩) main_call2_c_4) (TRef.of (T := ⟨S16384x1000, .i32⟩) main_call2_v21) (broadcastInDim S16384x1000 ![] bcast_S_S16384x1000),
    TRef.binary (TRef.of (T := ⟨S16384x1000, .i32⟩) main_call2_v19) (TRef.of (T := ⟨S16384x1000, .i32⟩) main_call2_v21) (TRef.of (T := ⟨S16384x1000, .i32⟩) main_call2_v22) Host.shli,
    TRef.nullary (TRef.of (T := ⟨S_, .i32⟩) main_call2_c_5) (constantI S_ 32 6#32),
    TRef.unary (TRef.of (T := ⟨S_, .i32⟩) main_call2_c_5) (TRef.of (T := ⟨S16384x1000, .i32⟩) main_call2_v23) (broadcastInDim S16384x1000 ![] bcast_S_S16384x1000),
    TRef.binary (TRef.of (T := ⟨S16384x1000, .i32⟩) main_call2_v19) (TRef.of (T := ⟨S16384x1000, .i32⟩) main_call2_v23) (TRef.of (T := ⟨S16384x1000, .i32⟩) main_call2_v24) Host.shrui,
    TRef.binary (TRef.of (T := ⟨S16384x1000, .i32⟩) main_call2_v22) (TRef.of (T := ⟨S16384x1000, .i32⟩) main_call2_v24) (TRef.of (T := ⟨S16384x1000, .i32⟩) main_call2_v25) ori,
    TRef.binary (TRef.of (T := ⟨S16384x1000, .i32⟩) main_call2_v20) (TRef.of (T := ⟨S16384x1000, .i32⟩) main_call2_v25) (TRef.of (T := ⟨S16384x1000, .i32⟩) main_call2_v26) xori,
    TRef.binary (TRef.of (T := ⟨S16384x1000, .i32⟩) main_call2_v20) (TRef.of (T := ⟨S16384x1000, .i32⟩) main_call2_v26) (TRef.of (T := ⟨S16384x1000, .i32⟩) main_call2_v27) addi,
    TRef.nullary (TRef.of (T := ⟨S_, .i32⟩) main_call2_c_6) (constantI S_ 32 6#32),
    TRef.unary (TRef.of (T := ⟨S_, .i32⟩) main_call2_c_6) (TRef.of (T := ⟨S16384x1000, .i32⟩) main_call2_v28) (broadcastInDim S16384x1000 ![] bcast_S_S16384x1000),
    TRef.binary (TRef.of (T := ⟨S16384x1000, .i32⟩) main_call2_v26) (TRef.of (T := ⟨S16384x1000, .i32⟩) main_call2_v28) (TRef.of (T := ⟨S16384x1000, .i32⟩) main_call2_v29) Host.shli,
    TRef.nullary (TRef.of (T := ⟨S_, .i32⟩) main_call2_c_7) (constantI S_ 32 26#32),
    TRef.unary (TRef.of (T := ⟨S_, .i32⟩) main_call2_c_7) (TRef.of (T := ⟨S16384x1000, .i32⟩) main_call2_v30) (broadcastInDim S16384x1000 ![] bcast_S_S16384x1000) ]

/-- @main's operations 91 … 120 of 306 (window `main_part0`). -/
abbrev ops_part0_3 : List (HloOp τ sig (Elt F)) :=
  [ TRef.binary (TRef.of (T := ⟨S16384x1000, .i32⟩) main_call2_v26) (TRef.of (T := ⟨S16384x1000, .i32⟩) main_call2_v30) (TRef.of (T := ⟨S16384x1000, .i32⟩) main_call2_v31) Host.shrui,
    TRef.binary (TRef.of (T := ⟨S16384x1000, .i32⟩) main_call2_v29) (TRef.of (T := ⟨S16384x1000, .i32⟩) main_call2_v31) (TRef.of (T := ⟨S16384x1000, .i32⟩) main_call2_v32) ori,
    TRef.binary (TRef.of (T := ⟨S16384x1000, .i32⟩) main_call2_v27) (TRef.of (T := ⟨S16384x1000, .i32⟩) main_call2_v32) (TRef.of (T := ⟨S16384x1000, .i32⟩) main_call2_v33) xori,
    TRef.unary (TRef.of (T := ⟨S_, .i32⟩) main_v23) (TRef.of (T := ⟨S16384x1000, .i32⟩) main_call2_v34) (broadcastInDim S16384x1000 ![] bcast_S_S16384x1000),
    TRef.binary (TRef.of (T := ⟨S16384x1000, .i32⟩) main_call2_v27) (TRef.of (T := ⟨S16384x1000, .i32⟩) main_call2_v34) (TRef.of (T := ⟨S16384x1000, .i32⟩) main_call2_v35) addi,
    TRef.unary (TRef.of (T := ⟨S_, .i32⟩) main_call2_v1) (TRef.of (T := ⟨S16384x1000, .i32⟩) main_call2_v36) (broadcastInDim S16384x1000 ![] bcast_S_S16384x1000),
    TRef.binary (TRef.of (T := ⟨S16384x1000, .i32⟩) main_call2_v33) (TRef.of (T := ⟨S16384x1000, .i32⟩) main_call2_v36) (TRef.of (T := ⟨S16384x1000, .i32⟩) main_call2_v37) addi,
    TRef.nullary (TRef.of (T := ⟨S_, .i32⟩) main_call2_c_8) (constantI S_ 32 1#32),
    TRef.unary (TRef.of (T := ⟨S_, .i32⟩) main_call2_c_8) (TRef.of (T := ⟨S16384x1000, .i32⟩) main_call2_v38) (broadcastInDim S16384x1000 ![] bcast_S_S16384x1000),
    TRef.binary (TRef.of (T := ⟨S16384x1000, .i32⟩) main_call2_v37) (TRef.of (T := ⟨S16384x1000, .i32⟩) main_call2_v38) (TRef.of (T := ⟨S16384x1000, .i32⟩) main_call2_v39) addi,
    TRef.binary (TRef.of (T := ⟨S16384x1000, .i32⟩) main_call2_v35) (TRef.of (T := ⟨S16384x1000, .i32⟩) main_call2_v39) (TRef.of (T := ⟨S16384x1000, .i32⟩) main_call2_v40) addi,
    TRef.nullary (TRef.of (T := ⟨S_, .i32⟩) main_call2_c_9) (constantI S_ 32 17#32),
    TRef.unary (TRef.of (T := ⟨S_, .i32⟩) main_call2_c_9) (TRef.of (T := ⟨S16384x1000, .i32⟩) main_call2_v41) (broadcastInDim S16384x1000 ![] bcast_S_S16384x1000),
    TRef.binary (TRef.of (T := ⟨S16384x1000, .i32⟩) main_call2_v39) (TRef.of (T := ⟨S16384x1000, .i32⟩) main_call2_v41) (TRef.of (T := ⟨S16384x1000, .i32⟩) main_call2_v42) Host.shli,
    TRef.nullary (TRef.of (T := ⟨S_, .i32⟩) main_call2_c_10) (constantI S_ 32 15#32),
    TRef.unary (TRef.of (T := ⟨S_, .i32⟩) main_call2_c_10) (TRef.of (T := ⟨S16384x1000, .i32⟩) main_call2_v43) (broadcastInDim S16384x1000 ![] bcast_S_S16384x1000),
    TRef.binary (TRef.of (T := ⟨S16384x1000, .i32⟩) main_call2_v39) (TRef.of (T := ⟨S16384x1000, .i32⟩) main_call2_v43) (TRef.of (T := ⟨S16384x1000, .i32⟩) main_call2_v44) Host.shrui,
    TRef.binary (TRef.of (T := ⟨S16384x1000, .i32⟩) main_call2_v42) (TRef.of (T := ⟨S16384x1000, .i32⟩) main_call2_v44) (TRef.of (T := ⟨S16384x1000, .i32⟩) main_call2_v45) ori,
    TRef.binary (TRef.of (T := ⟨S16384x1000, .i32⟩) main_call2_v40) (TRef.of (T := ⟨S16384x1000, .i32⟩) main_call2_v45) (TRef.of (T := ⟨S16384x1000, .i32⟩) main_call2_v46) xori,
    TRef.binary (TRef.of (T := ⟨S16384x1000, .i32⟩) main_call2_v40) (TRef.of (T := ⟨S16384x1000, .i32⟩) main_call2_v46) (TRef.of (T := ⟨S16384x1000, .i32⟩) main_call2_v47) addi,
    TRef.nullary (TRef.of (T := ⟨S_, .i32⟩) main_call2_c_11) (constantI S_ 32 29#32),
    TRef.unary (TRef.of (T := ⟨S_, .i32⟩) main_call2_c_11) (TRef.of (T := ⟨S16384x1000, .i32⟩) main_call2_v48) (broadcastInDim S16384x1000 ![] bcast_S_S16384x1000),
    TRef.binary (TRef.of (T := ⟨S16384x1000, .i32⟩) main_call2_v46) (TRef.of (T := ⟨S16384x1000, .i32⟩) main_call2_v48) (TRef.of (T := ⟨S16384x1000, .i32⟩) main_call2_v49) Host.shli,
    TRef.nullary (TRef.of (T := ⟨S_, .i32⟩) main_call2_c_12) (constantI S_ 32 3#32),
    TRef.unary (TRef.of (T := ⟨S_, .i32⟩) main_call2_c_12) (TRef.of (T := ⟨S16384x1000, .i32⟩) main_call2_v50) (broadcastInDim S16384x1000 ![] bcast_S_S16384x1000),
    TRef.binary (TRef.of (T := ⟨S16384x1000, .i32⟩) main_call2_v46) (TRef.of (T := ⟨S16384x1000, .i32⟩) main_call2_v50) (TRef.of (T := ⟨S16384x1000, .i32⟩) main_call2_v51) Host.shrui,
    TRef.binary (TRef.of (T := ⟨S16384x1000, .i32⟩) main_call2_v49) (TRef.of (T := ⟨S16384x1000, .i32⟩) main_call2_v51) (TRef.of (T := ⟨S16384x1000, .i32⟩) main_call2_v52) ori,
    TRef.binary (TRef.of (T := ⟨S16384x1000, .i32⟩) main_call2_v47) (TRef.of (T := ⟨S16384x1000, .i32⟩) main_call2_v52) (TRef.of (T := ⟨S16384x1000, .i32⟩) main_call2_v53) xori,
    TRef.binary (TRef.of (T := ⟨S16384x1000, .i32⟩) main_call2_v47) (TRef.of (T := ⟨S16384x1000, .i32⟩) main_call2_v53) (TRef.of (T := ⟨S16384x1000, .i32⟩) main_call2_v54) addi,
    TRef.nullary (TRef.of (T := ⟨S_, .i32⟩) main_call2_c_13) (constantI S_ 32 16#32) ]

/-- @main's operations 121 … 150 of 306 (window `main_part0`). -/
abbrev ops_part0_4 : List (HloOp τ sig (Elt F)) :=
  [ TRef.unary (TRef.of (T := ⟨S_, .i32⟩) main_call2_c_13) (TRef.of (T := ⟨S16384x1000, .i32⟩) main_call2_v55) (broadcastInDim S16384x1000 ![] bcast_S_S16384x1000),
    TRef.binary (TRef.of (T := ⟨S16384x1000, .i32⟩) main_call2_v53) (TRef.of (T := ⟨S16384x1000, .i32⟩) main_call2_v55) (TRef.of (T := ⟨S16384x1000, .i32⟩) main_call2_v56) Host.shli,
    TRef.nullary (TRef.of (T := ⟨S_, .i32⟩) main_call2_c_14) (constantI S_ 32 16#32),
    TRef.unary (TRef.of (T := ⟨S_, .i32⟩) main_call2_c_14) (TRef.of (T := ⟨S16384x1000, .i32⟩) main_call2_v57) (broadcastInDim S16384x1000 ![] bcast_S_S16384x1000),
    TRef.binary (TRef.of (T := ⟨S16384x1000, .i32⟩) main_call2_v53) (TRef.of (T := ⟨S16384x1000, .i32⟩) main_call2_v57) (TRef.of (T := ⟨S16384x1000, .i32⟩) main_call2_v58) Host.shrui,
    TRef.binary (TRef.of (T := ⟨S16384x1000, .i32⟩) main_call2_v56) (TRef.of (T := ⟨S16384x1000, .i32⟩) main_call2_v58) (TRef.of (T := ⟨S16384x1000, .i32⟩) main_call2_v59) ori,
    TRef.binary (TRef.of (T := ⟨S16384x1000, .i32⟩) main_call2_v54) (TRef.of (T := ⟨S16384x1000, .i32⟩) main_call2_v59) (TRef.of (T := ⟨S16384x1000, .i32⟩) main_call2_v60) xori,
    TRef.binary (TRef.of (T := ⟨S16384x1000, .i32⟩) main_call2_v54) (TRef.of (T := ⟨S16384x1000, .i32⟩) main_call2_v60) (TRef.of (T := ⟨S16384x1000, .i32⟩) main_call2_v61) addi,
    TRef.nullary (TRef.of (T := ⟨S_, .i32⟩) main_call2_c_15) (constantI S_ 32 24#32),
    TRef.unary (TRef.of (T := ⟨S_, .i32⟩) main_call2_c_15) (TRef.of (T := ⟨S16384x1000, .i32⟩) main_call2_v62) (broadcastInDim S16384x1000 ![] bcast_S_S16384x1000),
    TRef.binary (TRef.of (T := ⟨S16384x1000, .i32⟩) main_call2_v60) (TRef.of (T := ⟨S16384x1000, .i32⟩) main_call2_v62) (TRef.of (T := ⟨S16384x1000, .i32⟩) main_call2_v63) Host.shli,
    TRef.nullary (TRef.of (T := ⟨S_, .i32⟩) main_call2_c_16) (constantI S_ 32 8#32),
    TRef.unary (TRef.of (T := ⟨S_, .i32⟩) main_call2_c_16) (TRef.of (T := ⟨S16384x1000, .i32⟩) main_call2_v64) (broadcastInDim S16384x1000 ![] bcast_S_S16384x1000),
    TRef.binary (TRef.of (T := ⟨S16384x1000, .i32⟩) main_call2_v60) (TRef.of (T := ⟨S16384x1000, .i32⟩) main_call2_v64) (TRef.of (T := ⟨S16384x1000, .i32⟩) main_call2_v65) Host.shrui,
    TRef.binary (TRef.of (T := ⟨S16384x1000, .i32⟩) main_call2_v63) (TRef.of (T := ⟨S16384x1000, .i32⟩) main_call2_v65) (TRef.of (T := ⟨S16384x1000, .i32⟩) main_call2_v66) ori,
    TRef.binary (TRef.of (T := ⟨S16384x1000, .i32⟩) main_call2_v61) (TRef.of (T := ⟨S16384x1000, .i32⟩) main_call2_v66) (TRef.of (T := ⟨S16384x1000, .i32⟩) main_call2_v67) xori,
    TRef.unary (TRef.of (T := ⟨S_, .i32⟩) main_call2_v1) (TRef.of (T := ⟨S16384x1000, .i32⟩) main_call2_v68) (broadcastInDim S16384x1000 ![] bcast_S_S16384x1000),
    TRef.binary (TRef.of (T := ⟨S16384x1000, .i32⟩) main_call2_v61) (TRef.of (T := ⟨S16384x1000, .i32⟩) main_call2_v68) (TRef.of (T := ⟨S16384x1000, .i32⟩) main_call2_v69) addi,
    TRef.unary (TRef.of (T := ⟨S_, .i32⟩) main_v21) (TRef.of (T := ⟨S16384x1000, .i32⟩) main_call2_v70) (broadcastInDim S16384x1000 ![] bcast_S_S16384x1000),
    TRef.binary (TRef.of (T := ⟨S16384x1000, .i32⟩) main_call2_v67) (TRef.of (T := ⟨S16384x1000, .i32⟩) main_call2_v70) (TRef.of (T := ⟨S16384x1000, .i32⟩) main_call2_v71) addi,
    TRef.nullary (TRef.of (T := ⟨S_, .i32⟩) main_call2_c_17) (constantI S_ 32 2#32),
    TRef.unary (TRef.of (T := ⟨S_, .i32⟩) main_call2_c_17) (TRef.of (T := ⟨S16384x1000, .i32⟩) main_call2_v72) (broadcastInDim S16384x1000 ![] bcast_S_S16384x1000),
    TRef.binary (TRef.of (T := ⟨S16384x1000, .i32⟩) main_call2_v71) (TRef.of (T := ⟨S16384x1000, .i32⟩) main_call2_v72) (TRef.of (T := ⟨S16384x1000, .i32⟩) main_call2_v73) addi,
    TRef.binary (TRef.of (T := ⟨S16384x1000, .i32⟩) main_call2_v69) (TRef.of (T := ⟨S16384x1000, .i32⟩) main_call2_v73) (TRef.of (T := ⟨S16384x1000, .i32⟩) main_call2_v74) addi,
    TRef.nullary (TRef.of (T := ⟨S_, .i32⟩) main_call2_c_18) (constantI S_ 32 13#32),
    TRef.unary (TRef.of (T := ⟨S_, .i32⟩) main_call2_c_18) (TRef.of (T := ⟨S16384x1000, .i32⟩) main_call2_v75) (broadcastInDim S16384x1000 ![] bcast_S_S16384x1000),
    TRef.binary (TRef.of (T := ⟨S16384x1000, .i32⟩) main_call2_v73) (TRef.of (T := ⟨S16384x1000, .i32⟩) main_call2_v75) (TRef.of (T := ⟨S16384x1000, .i32⟩) main_call2_v76) Host.shli,
    TRef.nullary (TRef.of (T := ⟨S_, .i32⟩) main_call2_c_19) (constantI S_ 32 19#32),
    TRef.unary (TRef.of (T := ⟨S_, .i32⟩) main_call2_c_19) (TRef.of (T := ⟨S16384x1000, .i32⟩) main_call2_v77) (broadcastInDim S16384x1000 ![] bcast_S_S16384x1000),
    TRef.binary (TRef.of (T := ⟨S16384x1000, .i32⟩) main_call2_v73) (TRef.of (T := ⟨S16384x1000, .i32⟩) main_call2_v77) (TRef.of (T := ⟨S16384x1000, .i32⟩) main_call2_v78) Host.shrui ]

/-- @main's operations 151 … 180 of 306 (window `main_part0`). -/
abbrev ops_part0_5 : List (HloOp τ sig (Elt F)) :=
  [ TRef.binary (TRef.of (T := ⟨S16384x1000, .i32⟩) main_call2_v76) (TRef.of (T := ⟨S16384x1000, .i32⟩) main_call2_v78) (TRef.of (T := ⟨S16384x1000, .i32⟩) main_call2_v79) ori,
    TRef.binary (TRef.of (T := ⟨S16384x1000, .i32⟩) main_call2_v74) (TRef.of (T := ⟨S16384x1000, .i32⟩) main_call2_v79) (TRef.of (T := ⟨S16384x1000, .i32⟩) main_call2_v80) xori,
    TRef.binary (TRef.of (T := ⟨S16384x1000, .i32⟩) main_call2_v74) (TRef.of (T := ⟨S16384x1000, .i32⟩) main_call2_v80) (TRef.of (T := ⟨S16384x1000, .i32⟩) main_call2_v81) addi,
    TRef.nullary (TRef.of (T := ⟨S_, .i32⟩) main_call2_c_20) (constantI S_ 32 15#32),
    TRef.unary (TRef.of (T := ⟨S_, .i32⟩) main_call2_c_20) (TRef.of (T := ⟨S16384x1000, .i32⟩) main_call2_v82) (broadcastInDim S16384x1000 ![] bcast_S_S16384x1000),
    TRef.binary (TRef.of (T := ⟨S16384x1000, .i32⟩) main_call2_v80) (TRef.of (T := ⟨S16384x1000, .i32⟩) main_call2_v82) (TRef.of (T := ⟨S16384x1000, .i32⟩) main_call2_v83) Host.shli,
    TRef.nullary (TRef.of (T := ⟨S_, .i32⟩) main_call2_c_21) (constantI S_ 32 17#32),
    TRef.unary (TRef.of (T := ⟨S_, .i32⟩) main_call2_c_21) (TRef.of (T := ⟨S16384x1000, .i32⟩) main_call2_v84) (broadcastInDim S16384x1000 ![] bcast_S_S16384x1000),
    TRef.binary (TRef.of (T := ⟨S16384x1000, .i32⟩) main_call2_v80) (TRef.of (T := ⟨S16384x1000, .i32⟩) main_call2_v84) (TRef.of (T := ⟨S16384x1000, .i32⟩) main_call2_v85) Host.shrui,
    TRef.binary (TRef.of (T := ⟨S16384x1000, .i32⟩) main_call2_v83) (TRef.of (T := ⟨S16384x1000, .i32⟩) main_call2_v85) (TRef.of (T := ⟨S16384x1000, .i32⟩) main_call2_v86) ori,
    TRef.binary (TRef.of (T := ⟨S16384x1000, .i32⟩) main_call2_v81) (TRef.of (T := ⟨S16384x1000, .i32⟩) main_call2_v86) (TRef.of (T := ⟨S16384x1000, .i32⟩) main_call2_v87) xori,
    TRef.binary (TRef.of (T := ⟨S16384x1000, .i32⟩) main_call2_v81) (TRef.of (T := ⟨S16384x1000, .i32⟩) main_call2_v87) (TRef.of (T := ⟨S16384x1000, .i32⟩) main_call2_v88) addi,
    TRef.nullary (TRef.of (T := ⟨S_, .i32⟩) main_call2_c_22) (constantI S_ 32 26#32),
    TRef.unary (TRef.of (T := ⟨S_, .i32⟩) main_call2_c_22) (TRef.of (T := ⟨S16384x1000, .i32⟩) main_call2_v89) (broadcastInDim S16384x1000 ![] bcast_S_S16384x1000),
    TRef.binary (TRef.of (T := ⟨S16384x1000, .i32⟩) main_call2_v87) (TRef.of (T := ⟨S16384x1000, .i32⟩) main_call2_v89) (TRef.of (T := ⟨S16384x1000, .i32⟩) main_call2_v90) Host.shli,
    TRef.nullary (TRef.of (T := ⟨S_, .i32⟩) main_call2_c_23) (constantI S_ 32 6#32),
    TRef.unary (TRef.of (T := ⟨S_, .i32⟩) main_call2_c_23) (TRef.of (T := ⟨S16384x1000, .i32⟩) main_call2_v91) (broadcastInDim S16384x1000 ![] bcast_S_S16384x1000),
    TRef.binary (TRef.of (T := ⟨S16384x1000, .i32⟩) main_call2_v87) (TRef.of (T := ⟨S16384x1000, .i32⟩) main_call2_v91) (TRef.of (T := ⟨S16384x1000, .i32⟩) main_call2_v92) Host.shrui,
    TRef.binary (TRef.of (T := ⟨S16384x1000, .i32⟩) main_call2_v90) (TRef.of (T := ⟨S16384x1000, .i32⟩) main_call2_v92) (TRef.of (T := ⟨S16384x1000, .i32⟩) main_call2_v93) ori,
    TRef.binary (TRef.of (T := ⟨S16384x1000, .i32⟩) main_call2_v88) (TRef.of (T := ⟨S16384x1000, .i32⟩) main_call2_v93) (TRef.of (T := ⟨S16384x1000, .i32⟩) main_call2_v94) xori,
    TRef.binary (TRef.of (T := ⟨S16384x1000, .i32⟩) main_call2_v88) (TRef.of (T := ⟨S16384x1000, .i32⟩) main_call2_v94) (TRef.of (T := ⟨S16384x1000, .i32⟩) main_call2_v95) addi,
    TRef.nullary (TRef.of (T := ⟨S_, .i32⟩) main_call2_c_24) (constantI S_ 32 6#32),
    TRef.unary (TRef.of (T := ⟨S_, .i32⟩) main_call2_c_24) (TRef.of (T := ⟨S16384x1000, .i32⟩) main_call2_v96) (broadcastInDim S16384x1000 ![] bcast_S_S16384x1000),
    TRef.binary (TRef.of (T := ⟨S16384x1000, .i32⟩) main_call2_v94) (TRef.of (T := ⟨S16384x1000, .i32⟩) main_call2_v96) (TRef.of (T := ⟨S16384x1000, .i32⟩) main_call2_v97) Host.shli,
    TRef.nullary (TRef.of (T := ⟨S_, .i32⟩) main_call2_c_25) (constantI S_ 32 26#32),
    TRef.unary (TRef.of (T := ⟨S_, .i32⟩) main_call2_c_25) (TRef.of (T := ⟨S16384x1000, .i32⟩) main_call2_v98) (broadcastInDim S16384x1000 ![] bcast_S_S16384x1000),
    TRef.binary (TRef.of (T := ⟨S16384x1000, .i32⟩) main_call2_v94) (TRef.of (T := ⟨S16384x1000, .i32⟩) main_call2_v98) (TRef.of (T := ⟨S16384x1000, .i32⟩) main_call2_v99) Host.shrui,
    TRef.binary (TRef.of (T := ⟨S16384x1000, .i32⟩) main_call2_v97) (TRef.of (T := ⟨S16384x1000, .i32⟩) main_call2_v99) (TRef.of (T := ⟨S16384x1000, .i32⟩) main_call2_v100) ori,
    TRef.binary (TRef.of (T := ⟨S16384x1000, .i32⟩) main_call2_v95) (TRef.of (T := ⟨S16384x1000, .i32⟩) main_call2_v100) (TRef.of (T := ⟨S16384x1000, .i32⟩) main_call2_v101) xori,
    TRef.unary (TRef.of (T := ⟨S_, .i32⟩) main_v21) (TRef.of (T := ⟨S16384x1000, .i32⟩) main_call2_v102) (broadcastInDim S16384x1000 ![] bcast_S_S16384x1000) ]

/-- @main's operations 181 … 210 of 306 (window `main_part0`). -/
abbrev ops_part0_6 : List (HloOp τ sig (Elt F)) :=
  [ TRef.binary (TRef.of (T := ⟨S16384x1000, .i32⟩) main_call2_v95) (TRef.of (T := ⟨S16384x1000, .i32⟩) main_call2_v102) (TRef.of (T := ⟨S16384x1000, .i32⟩) main_call2_v103) addi,
    TRef.unary (TRef.of (T := ⟨S_, .i32⟩) main_v23) (TRef.of (T := ⟨S16384x1000, .i32⟩) main_call2_v104) (broadcastInDim S16384x1000 ![] bcast_S_S16384x1000),
    TRef.binary (TRef.of (T := ⟨S16384x1000, .i32⟩) main_call2_v101) (TRef.of (T := ⟨S16384x1000, .i32⟩) main_call2_v104) (TRef.of (T := ⟨S16384x1000, .i32⟩) main_call2_v105) addi,
    TRef.nullary (TRef.of (T := ⟨S_, .i32⟩) main_call2_c_26) (constantI S_ 32 3#32),
    TRef.unary (TRef.of (T := ⟨S_, .i32⟩) main_call2_c_26) (TRef.of (T := ⟨S16384x1000, .i32⟩) main_call2_v106) (broadcastInDim S16384x1000 ![] bcast_S_S16384x1000),
    TRef.binary (TRef.of (T := ⟨S16384x1000, .i32⟩) main_call2_v105) (TRef.of (T := ⟨S16384x1000, .i32⟩) main_call2_v106) (TRef.of (T := ⟨S16384x1000, .i32⟩) main_call2_v107) addi,
    TRef.binary (TRef.of (T := ⟨S16384x1000, .i32⟩) main_call2_v103) (TRef.of (T := ⟨S16384x1000, .i32⟩) main_call2_v107) (TRef.of (T := ⟨S16384x1000, .i32⟩) main_call2_v108) addi,
    TRef.nullary (TRef.of (T := ⟨S_, .i32⟩) main_call2_c_27) (constantI S_ 32 17#32),
    TRef.unary (TRef.of (T := ⟨S_, .i32⟩) main_call2_c_27) (TRef.of (T := ⟨S16384x1000, .i32⟩) main_call2_v109) (broadcastInDim S16384x1000 ![] bcast_S_S16384x1000),
    TRef.binary (TRef.of (T := ⟨S16384x1000, .i32⟩) main_call2_v107) (TRef.of (T := ⟨S16384x1000, .i32⟩) main_call2_v109) (TRef.of (T := ⟨S16384x1000, .i32⟩) main_call2_v110) Host.shli,
    TRef.nullary (TRef.of (T := ⟨S_, .i32⟩) main_call2_c_28) (constantI S_ 32 15#32),
    TRef.unary (TRef.of (T := ⟨S_, .i32⟩) main_call2_c_28) (TRef.of (T := ⟨S16384x1000, .i32⟩) main_call2_v111) (broadcastInDim S16384x1000 ![] bcast_S_S16384x1000),
    TRef.binary (TRef.of (T := ⟨S16384x1000, .i32⟩) main_call2_v107) (TRef.of (T := ⟨S16384x1000, .i32⟩) main_call2_v111) (TRef.of (T := ⟨S16384x1000, .i32⟩) main_call2_v112) Host.shrui,
    TRef.binary (TRef.of (T := ⟨S16384x1000, .i32⟩) main_call2_v110) (TRef.of (T := ⟨S16384x1000, .i32⟩) main_call2_v112) (TRef.of (T := ⟨S16384x1000, .i32⟩) main_call2_v113) ori,
    TRef.binary (TRef.of (T := ⟨S16384x1000, .i32⟩) main_call2_v108) (TRef.of (T := ⟨S16384x1000, .i32⟩) main_call2_v113) (TRef.of (T := ⟨S16384x1000, .i32⟩) main_call2_v114) xori,
    TRef.binary (TRef.of (T := ⟨S16384x1000, .i32⟩) main_call2_v108) (TRef.of (T := ⟨S16384x1000, .i32⟩) main_call2_v114) (TRef.of (T := ⟨S16384x1000, .i32⟩) main_call2_v115) addi,
    TRef.nullary (TRef.of (T := ⟨S_, .i32⟩) main_call2_c_29) (constantI S_ 32 29#32),
    TRef.unary (TRef.of (T := ⟨S_, .i32⟩) main_call2_c_29) (TRef.of (T := ⟨S16384x1000, .i32⟩) main_call2_v116) (broadcastInDim S16384x1000 ![] bcast_S_S16384x1000),
    TRef.binary (TRef.of (T := ⟨S16384x1000, .i32⟩) main_call2_v114) (TRef.of (T := ⟨S16384x1000, .i32⟩) main_call2_v116) (TRef.of (T := ⟨S16384x1000, .i32⟩) main_call2_v117) Host.shli,
    TRef.nullary (TRef.of (T := ⟨S_, .i32⟩) main_call2_c_30) (constantI S_ 32 3#32),
    TRef.unary (TRef.of (T := ⟨S_, .i32⟩) main_call2_c_30) (TRef.of (T := ⟨S16384x1000, .i32⟩) main_call2_v118) (broadcastInDim S16384x1000 ![] bcast_S_S16384x1000),
    TRef.binary (TRef.of (T := ⟨S16384x1000, .i32⟩) main_call2_v114) (TRef.of (T := ⟨S16384x1000, .i32⟩) main_call2_v118) (TRef.of (T := ⟨S16384x1000, .i32⟩) main_call2_v119) Host.shrui,
    TRef.binary (TRef.of (T := ⟨S16384x1000, .i32⟩) main_call2_v117) (TRef.of (T := ⟨S16384x1000, .i32⟩) main_call2_v119) (TRef.of (T := ⟨S16384x1000, .i32⟩) main_call2_v120) ori,
    TRef.binary (TRef.of (T := ⟨S16384x1000, .i32⟩) main_call2_v115) (TRef.of (T := ⟨S16384x1000, .i32⟩) main_call2_v120) (TRef.of (T := ⟨S16384x1000, .i32⟩) main_call2_v121) xori,
    TRef.binary (TRef.of (T := ⟨S16384x1000, .i32⟩) main_call2_v115) (TRef.of (T := ⟨S16384x1000, .i32⟩) main_call2_v121) (TRef.of (T := ⟨S16384x1000, .i32⟩) main_call2_v122) addi,
    TRef.nullary (TRef.of (T := ⟨S_, .i32⟩) main_call2_c_31) (constantI S_ 32 16#32),
    TRef.unary (TRef.of (T := ⟨S_, .i32⟩) main_call2_c_31) (TRef.of (T := ⟨S16384x1000, .i32⟩) main_call2_v123) (broadcastInDim S16384x1000 ![] bcast_S_S16384x1000),
    TRef.binary (TRef.of (T := ⟨S16384x1000, .i32⟩) main_call2_v121) (TRef.of (T := ⟨S16384x1000, .i32⟩) main_call2_v123) (TRef.of (T := ⟨S16384x1000, .i32⟩) main_call2_v124) Host.shli,
    TRef.nullary (TRef.of (T := ⟨S_, .i32⟩) main_call2_c_32) (constantI S_ 32 16#32),
    TRef.unary (TRef.of (T := ⟨S_, .i32⟩) main_call2_c_32) (TRef.of (T := ⟨S16384x1000, .i32⟩) main_call2_v125) (broadcastInDim S16384x1000 ![] bcast_S_S16384x1000) ]

/-- @main's operations 211 … 240 of 306 (window `main_part0`). -/
abbrev ops_part0_7 : List (HloOp τ sig (Elt F)) :=
  [ TRef.binary (TRef.of (T := ⟨S16384x1000, .i32⟩) main_call2_v121) (TRef.of (T := ⟨S16384x1000, .i32⟩) main_call2_v125) (TRef.of (T := ⟨S16384x1000, .i32⟩) main_call2_v126) Host.shrui,
    TRef.binary (TRef.of (T := ⟨S16384x1000, .i32⟩) main_call2_v124) (TRef.of (T := ⟨S16384x1000, .i32⟩) main_call2_v126) (TRef.of (T := ⟨S16384x1000, .i32⟩) main_call2_v127) ori,
    TRef.binary (TRef.of (T := ⟨S16384x1000, .i32⟩) main_call2_v122) (TRef.of (T := ⟨S16384x1000, .i32⟩) main_call2_v127) (TRef.of (T := ⟨S16384x1000, .i32⟩) main_call2_v128) xori,
    TRef.binary (TRef.of (T := ⟨S16384x1000, .i32⟩) main_call2_v122) (TRef.of (T := ⟨S16384x1000, .i32⟩) main_call2_v128) (TRef.of (T := ⟨S16384x1000, .i32⟩) main_call2_v129) addi,
    TRef.nullary (TRef.of (T := ⟨S_, .i32⟩) main_call2_c_33) (constantI S_ 32 24#32),
    TRef.unary (TRef.of (T := ⟨S_, .i32⟩) main_call2_c_33) (TRef.of (T := ⟨S16384x1000, .i32⟩) main_call2_v130) (broadcastInDim S16384x1000 ![] bcast_S_S16384x1000),
    TRef.binary (TRef.of (T := ⟨S16384x1000, .i32⟩) main_call2_v128) (TRef.of (T := ⟨S16384x1000, .i32⟩) main_call2_v130) (TRef.of (T := ⟨S16384x1000, .i32⟩) main_call2_v131) Host.shli,
    TRef.nullary (TRef.of (T := ⟨S_, .i32⟩) main_call2_c_34) (constantI S_ 32 8#32),
    TRef.unary (TRef.of (T := ⟨S_, .i32⟩) main_call2_c_34) (TRef.of (T := ⟨S16384x1000, .i32⟩) main_call2_v132) (broadcastInDim S16384x1000 ![] bcast_S_S16384x1000),
    TRef.binary (TRef.of (T := ⟨S16384x1000, .i32⟩) main_call2_v128) (TRef.of (T := ⟨S16384x1000, .i32⟩) main_call2_v132) (TRef.of (T := ⟨S16384x1000, .i32⟩) main_call2_v133) Host.shrui,
    TRef.binary (TRef.of (T := ⟨S16384x1000, .i32⟩) main_call2_v131) (TRef.of (T := ⟨S16384x1000, .i32⟩) main_call2_v133) (TRef.of (T := ⟨S16384x1000, .i32⟩) main_call2_v134) ori,
    TRef.binary (TRef.of (T := ⟨S16384x1000, .i32⟩) main_call2_v129) (TRef.of (T := ⟨S16384x1000, .i32⟩) main_call2_v134) (TRef.of (T := ⟨S16384x1000, .i32⟩) main_call2_v135) xori,
    TRef.unary (TRef.of (T := ⟨S_, .i32⟩) main_v23) (TRef.of (T := ⟨S16384x1000, .i32⟩) main_call2_v136) (broadcastInDim S16384x1000 ![] bcast_S_S16384x1000),
    TRef.binary (TRef.of (T := ⟨S16384x1000, .i32⟩) main_call2_v129) (TRef.of (T := ⟨S16384x1000, .i32⟩) main_call2_v136) (TRef.of (T := ⟨S16384x1000, .i32⟩) main_call2_v137) addi,
    TRef.unary (TRef.of (T := ⟨S_, .i32⟩) main_call2_v1) (TRef.of (T := ⟨S16384x1000, .i32⟩) main_call2_v138) (broadcastInDim S16384x1000 ![] bcast_S_S16384x1000),
    TRef.binary (TRef.of (T := ⟨S16384x1000, .i32⟩) main_call2_v135) (TRef.of (T := ⟨S16384x1000, .i32⟩) main_call2_v138) (TRef.of (T := ⟨S16384x1000, .i32⟩) main_call2_v139) addi,
    TRef.nullary (TRef.of (T := ⟨S_, .i32⟩) main_call2_c_35) (constantI S_ 32 4#32),
    TRef.unary (TRef.of (T := ⟨S_, .i32⟩) main_call2_c_35) (TRef.of (T := ⟨S16384x1000, .i32⟩) main_call2_v140) (broadcastInDim S16384x1000 ![] bcast_S_S16384x1000),
    TRef.binary (TRef.of (T := ⟨S16384x1000, .i32⟩) main_call2_v139) (TRef.of (T := ⟨S16384x1000, .i32⟩) main_call2_v140) (TRef.of (T := ⟨S16384x1000, .i32⟩) main_call2_v141) addi,
    TRef.binary (TRef.of (T := ⟨S16384x1000, .i32⟩) main_call2_v137) (TRef.of (T := ⟨S16384x1000, .i32⟩) main_call2_v141) (TRef.of (T := ⟨S16384x1000, .i32⟩) main_call2_v142) addi,
    TRef.nullary (TRef.of (T := ⟨S_, .i32⟩) main_call2_c_36) (constantI S_ 32 13#32),
    TRef.unary (TRef.of (T := ⟨S_, .i32⟩) main_call2_c_36) (TRef.of (T := ⟨S16384x1000, .i32⟩) main_call2_v143) (broadcastInDim S16384x1000 ![] bcast_S_S16384x1000),
    TRef.binary (TRef.of (T := ⟨S16384x1000, .i32⟩) main_call2_v141) (TRef.of (T := ⟨S16384x1000, .i32⟩) main_call2_v143) (TRef.of (T := ⟨S16384x1000, .i32⟩) main_call2_v144) Host.shli,
    TRef.nullary (TRef.of (T := ⟨S_, .i32⟩) main_call2_c_37) (constantI S_ 32 19#32),
    TRef.unary (TRef.of (T := ⟨S_, .i32⟩) main_call2_c_37) (TRef.of (T := ⟨S16384x1000, .i32⟩) main_call2_v145) (broadcastInDim S16384x1000 ![] bcast_S_S16384x1000),
    TRef.binary (TRef.of (T := ⟨S16384x1000, .i32⟩) main_call2_v141) (TRef.of (T := ⟨S16384x1000, .i32⟩) main_call2_v145) (TRef.of (T := ⟨S16384x1000, .i32⟩) main_call2_v146) Host.shrui,
    TRef.binary (TRef.of (T := ⟨S16384x1000, .i32⟩) main_call2_v144) (TRef.of (T := ⟨S16384x1000, .i32⟩) main_call2_v146) (TRef.of (T := ⟨S16384x1000, .i32⟩) main_call2_v147) ori,
    TRef.binary (TRef.of (T := ⟨S16384x1000, .i32⟩) main_call2_v142) (TRef.of (T := ⟨S16384x1000, .i32⟩) main_call2_v147) (TRef.of (T := ⟨S16384x1000, .i32⟩) main_call2_v148) xori,
    TRef.binary (TRef.of (T := ⟨S16384x1000, .i32⟩) main_call2_v142) (TRef.of (T := ⟨S16384x1000, .i32⟩) main_call2_v148) (TRef.of (T := ⟨S16384x1000, .i32⟩) main_call2_v149) addi,
    TRef.nullary (TRef.of (T := ⟨S_, .i32⟩) main_call2_c_38) (constantI S_ 32 15#32) ]

/-- @main's operations 241 … 270 of 306 (window `main_part0`). -/
abbrev ops_part0_8 : List (HloOp τ sig (Elt F)) :=
  [ TRef.unary (TRef.of (T := ⟨S_, .i32⟩) main_call2_c_38) (TRef.of (T := ⟨S16384x1000, .i32⟩) main_call2_v150) (broadcastInDim S16384x1000 ![] bcast_S_S16384x1000),
    TRef.binary (TRef.of (T := ⟨S16384x1000, .i32⟩) main_call2_v148) (TRef.of (T := ⟨S16384x1000, .i32⟩) main_call2_v150) (TRef.of (T := ⟨S16384x1000, .i32⟩) main_call2_v151) Host.shli,
    TRef.nullary (TRef.of (T := ⟨S_, .i32⟩) main_call2_c_39) (constantI S_ 32 17#32),
    TRef.unary (TRef.of (T := ⟨S_, .i32⟩) main_call2_c_39) (TRef.of (T := ⟨S16384x1000, .i32⟩) main_call2_v152) (broadcastInDim S16384x1000 ![] bcast_S_S16384x1000),
    TRef.binary (TRef.of (T := ⟨S16384x1000, .i32⟩) main_call2_v148) (TRef.of (T := ⟨S16384x1000, .i32⟩) main_call2_v152) (TRef.of (T := ⟨S16384x1000, .i32⟩) main_call2_v153) Host.shrui,
    TRef.binary (TRef.of (T := ⟨S16384x1000, .i32⟩) main_call2_v151) (TRef.of (T := ⟨S16384x1000, .i32⟩) main_call2_v153) (TRef.of (T := ⟨S16384x1000, .i32⟩) main_call2_v154) ori,
    TRef.binary (TRef.of (T := ⟨S16384x1000, .i32⟩) main_call2_v149) (TRef.of (T := ⟨S16384x1000, .i32⟩) main_call2_v154) (TRef.of (T := ⟨S16384x1000, .i32⟩) main_call2_v155) xori,
    TRef.binary (TRef.of (T := ⟨S16384x1000, .i32⟩) main_call2_v149) (TRef.of (T := ⟨S16384x1000, .i32⟩) main_call2_v155) (TRef.of (T := ⟨S16384x1000, .i32⟩) main_call2_v156) addi,
    TRef.nullary (TRef.of (T := ⟨S_, .i32⟩) main_call2_c_40) (constantI S_ 32 26#32),
    TRef.unary (TRef.of (T := ⟨S_, .i32⟩) main_call2_c_40) (TRef.of (T := ⟨S16384x1000, .i32⟩) main_call2_v157) (broadcastInDim S16384x1000 ![] bcast_S_S16384x1000),
    TRef.binary (TRef.of (T := ⟨S16384x1000, .i32⟩) main_call2_v155) (TRef.of (T := ⟨S16384x1000, .i32⟩) main_call2_v157) (TRef.of (T := ⟨S16384x1000, .i32⟩) main_call2_v158) Host.shli,
    TRef.nullary (TRef.of (T := ⟨S_, .i32⟩) main_call2_c_41) (constantI S_ 32 6#32),
    TRef.unary (TRef.of (T := ⟨S_, .i32⟩) main_call2_c_41) (TRef.of (T := ⟨S16384x1000, .i32⟩) main_call2_v159) (broadcastInDim S16384x1000 ![] bcast_S_S16384x1000),
    TRef.binary (TRef.of (T := ⟨S16384x1000, .i32⟩) main_call2_v155) (TRef.of (T := ⟨S16384x1000, .i32⟩) main_call2_v159) (TRef.of (T := ⟨S16384x1000, .i32⟩) main_call2_v160) Host.shrui,
    TRef.binary (TRef.of (T := ⟨S16384x1000, .i32⟩) main_call2_v158) (TRef.of (T := ⟨S16384x1000, .i32⟩) main_call2_v160) (TRef.of (T := ⟨S16384x1000, .i32⟩) main_call2_v161) ori,
    TRef.binary (TRef.of (T := ⟨S16384x1000, .i32⟩) main_call2_v156) (TRef.of (T := ⟨S16384x1000, .i32⟩) main_call2_v161) (TRef.of (T := ⟨S16384x1000, .i32⟩) main_call2_v162) xori,
    TRef.binary (TRef.of (T := ⟨S16384x1000, .i32⟩) main_call2_v156) (TRef.of (T := ⟨S16384x1000, .i32⟩) main_call2_v162) (TRef.of (T := ⟨S16384x1000, .i32⟩) main_call2_v163) addi,
    TRef.nullary (TRef.of (T := ⟨S_, .i32⟩) main_call2_c_42) (constantI S_ 32 6#32),
    TRef.unary (TRef.of (T := ⟨S_, .i32⟩) main_call2_c_42) (TRef.of (T := ⟨S16384x1000, .i32⟩) main_call2_v164) (broadcastInDim S16384x1000 ![] bcast_S_S16384x1000),
    TRef.binary (TRef.of (T := ⟨S16384x1000, .i32⟩) main_call2_v162) (TRef.of (T := ⟨S16384x1000, .i32⟩) main_call2_v164) (TRef.of (T := ⟨S16384x1000, .i32⟩) main_call2_v165) Host.shli,
    TRef.nullary (TRef.of (T := ⟨S_, .i32⟩) main_call2_c_43) (constantI S_ 32 26#32),
    TRef.unary (TRef.of (T := ⟨S_, .i32⟩) main_call2_c_43) (TRef.of (T := ⟨S16384x1000, .i32⟩) main_call2_v166) (broadcastInDim S16384x1000 ![] bcast_S_S16384x1000),
    TRef.binary (TRef.of (T := ⟨S16384x1000, .i32⟩) main_call2_v162) (TRef.of (T := ⟨S16384x1000, .i32⟩) main_call2_v166) (TRef.of (T := ⟨S16384x1000, .i32⟩) main_call2_v167) Host.shrui,
    TRef.binary (TRef.of (T := ⟨S16384x1000, .i32⟩) main_call2_v165) (TRef.of (T := ⟨S16384x1000, .i32⟩) main_call2_v167) (TRef.of (T := ⟨S16384x1000, .i32⟩) main_call2_v168) ori,
    TRef.binary (TRef.of (T := ⟨S16384x1000, .i32⟩) main_call2_v163) (TRef.of (T := ⟨S16384x1000, .i32⟩) main_call2_v168) (TRef.of (T := ⟨S16384x1000, .i32⟩) main_call2_v169) xori,
    TRef.unary (TRef.of (T := ⟨S_, .i32⟩) main_call2_v1) (TRef.of (T := ⟨S16384x1000, .i32⟩) main_call2_v170) (broadcastInDim S16384x1000 ![] bcast_S_S16384x1000),
    TRef.binary (TRef.of (T := ⟨S16384x1000, .i32⟩) main_call2_v163) (TRef.of (T := ⟨S16384x1000, .i32⟩) main_call2_v170) (TRef.of (T := ⟨S16384x1000, .i32⟩) main_v35_0) addi,
    TRef.unary (TRef.of (T := ⟨S_, .i32⟩) main_v21) (TRef.of (T := ⟨S16384x1000, .i32⟩) main_call2_v172) (broadcastInDim S16384x1000 ![] bcast_S_S16384x1000),
    TRef.binary (TRef.of (T := ⟨S16384x1000, .i32⟩) main_call2_v169) (TRef.of (T := ⟨S16384x1000, .i32⟩) main_call2_v172) (TRef.of (T := ⟨S16384x1000, .i32⟩) main_call2_v173) addi,
    TRef.nullary (TRef.of (T := ⟨S_, .i32⟩) main_call2_c_44) (constantI S_ 32 5#32) ]

/-- @main's operations 271 … 288 of 306 (window `main_part0`). -/
abbrev ops_part0_9 : List (HloOp τ sig (Elt F)) :=
  [ TRef.unary (TRef.of (T := ⟨S_, .i32⟩) main_call2_c_44) (TRef.of (T := ⟨S16384x1000, .i32⟩) main_call2_v174) (broadcastInDim S16384x1000 ![] bcast_S_S16384x1000),
    TRef.binary (TRef.of (T := ⟨S16384x1000, .i32⟩) main_call2_v173) (TRef.of (T := ⟨S16384x1000, .i32⟩) main_call2_v174) (TRef.of (T := ⟨S16384x1000, .i32⟩) main_v35_1) addi,
    binary main_v35_0 main_v35_1 main_v36 (xori : (⟨S16384x1000, .i32⟩ : BufTy).Contents (Elt F) → (⟨S16384x1000, .i32⟩ : BufTy).Contents (Elt F) → (⟨S16384x1000, .i32⟩ : BufTy).Contents (Elt F)),
    nullary main_c_6 (constantI S_ 32 9#32),
    unary main_c_6 main_v37 (broadcastInDim S16384x1000 ![] bcast_S_S16384x1000 : (⟨S_, .i32⟩ : BufTy).Contents (Elt F) → (⟨S16384x1000, .i32⟩ : BufTy).Contents (Elt F)),
    binary main_v36 main_v37 main_v38 (Host.shrui : (⟨S16384x1000, .i32⟩ : BufTy).Contents (Elt F) → (⟨S16384x1000, .i32⟩ : BufTy).Contents (Elt F) → (⟨S16384x1000, .i32⟩ : BufTy).Contents (Elt F)),
    nullary main_c_7 (constantI S_ 32 1065353216#32),
    unary main_c_7 main_v39 (broadcastInDim S16384x1000 ![] bcast_S_S16384x1000 : (⟨S_, .i32⟩ : BufTy).Contents (Elt F) → (⟨S16384x1000, .i32⟩ : BufTy).Contents (Elt F)),
    binary main_v38 main_v39 main_v40 (ori : (⟨S16384x1000, .i32⟩ : BufTy).Contents (Elt F) → (⟨S16384x1000, .i32⟩ : BufTy).Contents (Elt F) → (⟨S16384x1000, .i32⟩ : BufTy).Contents (Elt F)),
    unary main_v40 main_v41 (bitcastToFloat (F := F) .f32 : (⟨S16384x1000, .i32⟩ : BufTy).Contents (Elt F) → (⟨S16384x1000, .f32⟩ : BufTy).Contents (Elt F)),
    nullary main_cst_8 (constant S_ .f32 0x3F800000#32),
    unary main_cst_8 main_v42 (broadcastInDim S16384x1000 ![] bcast_S_S16384x1000 : (⟨S_, .f32⟩ : BufTy).Contents (Elt F) → (⟨S16384x1000, .f32⟩ : BufTy).Contents (Elt F)),
    binary main_v41 main_v42 main_v43 (subf : (⟨S16384x1000, .f32⟩ : BufTy).Contents (Elt F) → (⟨S16384x1000, .f32⟩ : BufTy).Contents (Elt F) → (⟨S16384x1000, .f32⟩ : BufTy).Contents (Elt F)),
    nullary main_cst_9 (constant S_ .f32 0x3F800000#32),
    unary main_cst_9 main_v44 (broadcastInDim S16384x1000 ![] bcast_S_S16384x1000 : (⟨S_, .f32⟩ : BufTy).Contents (Elt F) → (⟨S16384x1000, .f32⟩ : BufTy).Contents (Elt F)),
    binary main_v43 main_v44 main_v45 (mulf : (⟨S16384x1000, .f32⟩ : BufTy).Contents (Elt F) → (⟨S16384x1000, .f32⟩ : BufTy).Contents (Elt F) → (⟨S16384x1000, .f32⟩ : BufTy).Contents (Elt F)),
    nullary main_cst_10 (constant S_ .f32 0x00800000#32),
    unary main_cst_10 main_v46 (broadcastInDim S16384x1000 ![] bcast_S_S16384x1000 : (⟨S_, .f32⟩ : BufTy).Contents (Elt F) → (⟨S16384x1000, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9)))))))))

/-- @main's operations 289 … 306 of 306 (window `main_part1`). -/
abbrev ops_part1 : List (HloOp τ sig (Elt F)) :=
  [ binary main_v45 main_v46 main_v47 (addf : (⟨S16384x1000, .f32⟩ : BufTy).Contents (Elt F) → (⟨S16384x1000, .f32⟩ : BufTy).Contents (Elt F) → (⟨S16384x1000, .f32⟩ : BufTy).Contents (Elt F)),
    nullary main_cst_11 (constant S_ .f32 0x00800000#32),
    unary main_cst_11 main_v48 (broadcastInDim S16384x1000 ![] bcast_S_S16384x1000 : (⟨S_, .f32⟩ : BufTy).Contents (Elt F) → (⟨S16384x1000, .f32⟩ : BufTy).Contents (Elt F)),
    binary main_v48 main_v47 main_v49 (maximumf : (⟨S16384x1000, .f32⟩ : BufTy).Contents (Elt F) → (⟨S16384x1000, .f32⟩ : BufTy).Contents (Elt F) → (⟨S16384x1000, .f32⟩ : BufTy).Contents (Elt F)),
    unary main_v49 main_v50 (Host.log : (⟨S16384x1000, .f32⟩ : BufTy).Contents (Elt F) → (⟨S16384x1000, .f32⟩ : BufTy).Contents (Elt F)),
    unary main_v50 main_v51 (Host.negf : (⟨S16384x1000, .f32⟩ : BufTy).Contents (Elt F) → (⟨S16384x1000, .f32⟩ : BufTy).Contents (Elt F)),
    unary main_v51 main_v52 (Host.log : (⟨S16384x1000, .f32⟩ : BufTy).Contents (Elt F) → (⟨S16384x1000, .f32⟩ : BufTy).Contents (Elt F)),
    unary main_v52 main_v53 (Host.negf : (⟨S16384x1000, .f32⟩ : BufTy).Contents (Elt F) → (⟨S16384x1000, .f32⟩ : BufTy).Contents (Elt F)),
    binary main_v53 main_v12 main_v54 (addf : (⟨S16384x1000, .f32⟩ : BufTy).Contents (Elt F) → (⟨S16384x1000, .f32⟩ : BufTy).Contents (Elt F) → (⟨S16384x1000, .f32⟩ : BufTy).Contents (Elt F)),
    TRef.nullary (TRef.of (T := ⟨S16384x1000, .i32⟩) main_call3_v0) (iotaInDim S16384x1000 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S16384x1000, .f32⟩) main_v54) (TRef.of (T := ⟨S16384x1000, .i32⟩) main_call3_v0) (TRef.of (T := ⟨S_, .f32⟩) main_call3_cst) (TRef.of (T := ⟨S_, .i32⟩) main_call3_c) (TRef.of (T := ⟨S16384, .f32⟩) main_call3_v1_0) (fun x y u v j => (Host.argReduce reducer_argmax_f32_i32 x y u v reducesTo_S16384x1000_S16384_d1 h_S_ j).1),
    TRef.quaternary (TRef.of (T := ⟨S16384x1000, .f32⟩) main_v54) (TRef.of (T := ⟨S16384x1000, .i32⟩) main_call3_v0) (TRef.of (T := ⟨S_, .f32⟩) main_call3_cst) (TRef.of (T := ⟨S_, .i32⟩) main_call3_c) (TRef.of (T := ⟨S16384, .i32⟩) main_v55) (fun x y u v j => (Host.argReduce reducer_argmax_f32_i32 x y u v reducesTo_S16384x1000_S16384_d1 h_S_ j).2),
    nullary main_cst_12 (constant S_ .f32 0x3F800000#32),
    unary main_cst_12 main_v56 (broadcastInDim S16384 ![] bcast_S_S16384 : (⟨S_, .f32⟩ : BufTy).Contents (Elt F) → (⟨S16384, .f32⟩ : BufTy).Contents (Elt F)),
    binary main_arg1 main_v56 main_v57 (cmpf .oeq : (⟨S16384, .f32⟩ : BufTy).Contents (Elt F) → (⟨S16384, .f32⟩ : BufTy).Contents (Elt F) → (⟨S16384, .i1⟩ : BufTy).Contents (Elt F)),
    TRef.ternary (TRef.of (T := ⟨S16384, .i1⟩) main_v57) (TRef.of (T := ⟨S16384, .i32⟩) main_arg0) (TRef.of (T := ⟨S16384, .i32⟩) main_v55) (TRef.of (T := ⟨S16384, .i32⟩) main_v58) select ]

/-- @main's 306 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
/-- @main is the sequence of its operations. -/
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., nullary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., unary_bufs_sub .., binary_bufs_sub .., unary_bufs_sub .., nullary_bufs_sub .., nullary_bufs_sub .., binary_bufs_sub .., unary_bufs_sub .., unary_bufs_sub .., nullary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., ternary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl⟩
/-- Every operation touches TensorCore buffers only. -/
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part1_fresh op h]

end Cert.ReferenceIdeal.Value

end
-- ==== Proof.RefRun.lean ====
/- The reference's run read back: every weakly fair execution ends with the result buffer at the operations' composed term of the arguments and the arguments unchanged. A value used more than once gets a name (`res_…`), so the term stays small. -/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v1`'s composed term of the arguments (named: it is used 2 times). -/
def res_main_v1 (V0 : Valuation τ sig (Elt F)) : (Proc.devRef .tc main_v1 : DevRef τ sig).ty.Contents (Elt F) :=
  broadcastInDim S16384x1 ![0] bcast_S16384_S16384x1_0 (V0 (Proc.devRef .tc main_arg1))

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v19`'s composed term of the arguments (named: it is used 2 times). -/
def res_main_v19 (V0 : Valuation τ sig (Elt F)) : (Proc.devRef .tc main_v19 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_v21`'s composed term of the arguments (named: it is used 5 times). -/
def res_main_v21 (V0 : Valuation τ sig (Elt F)) : (Proc.devRef .tc main_v21 : DevRef τ sig).ty.Contents (Elt F) :=
  shapeCast _ (extractStridedSlice S1 ![0] (res_main_v19 V0) slices_S2_S1_0) shapeCasts_S1_S_

set_option maxRecDepth 8192 in
/-- `main_v23`'s composed term of the arguments (named: it is used 5 times). -/
def res_main_v23 (V0 : Valuation τ sig (Elt F)) : (Proc.devRef .tc main_v23 : DevRef τ sig).ty.Contents (Elt F) :=
  shapeCast _ (extractStridedSlice S1 ![1] (res_main_v19 V0) slices_S2_S1_1) shapeCasts_S1_S_

set_option maxRecDepth 8192 in
/-- `main_v30`'s composed term of the arguments (named: it is used 2 times). -/
def res_main_v30 (V0 : Valuation τ sig (Elt F)) : (Proc.devRef .tc main_v30 : DevRef τ sig).ty.Contents (Elt F) :=
  addi (muli (broadcastInDim S16384x1000 ![] bcast_S_S16384x1000 (constantI S_ 64 1000#64)) (iotaInDim S16384x1000 64 0)) (muli (broadcastInDim S16384x1000 ![] bcast_S_S16384x1000 (constantI S_ 64 1#64)) (iotaInDim S16384x1000 64 1))

set_option maxRecDepth 8192 in
/-- `main_call2_v1`'s composed term of the arguments (named: it is used 4 times). -/
def res_main_call2_v1 (V0 : Valuation τ sig (Elt F)) : (Proc.devRef .tc main_call2_v1 : DevRef τ sig).ty.Contents (Elt F) :=
  xori (xori (res_main_v21 V0) (res_main_v23 V0)) (constantI S_ 32 466688986#32)

set_option maxRecDepth 8192 in
/-- `main_call2_v5`'s composed term of the arguments (named: it is used 3 times). -/
def res_main_call2_v5 (V0 : Valuation τ sig (Elt F)) : (Proc.devRef .tc main_call2_v5 : DevRef τ sig).ty.Contents (Elt F) :=
  addi (trunci 32 (res_main_v30 V0) natLt_32_64) (broadcastInDim S16384x1000 ![] bcast_S_S16384x1000 (res_main_v23 V0))

set_option maxRecDepth 8192 in
/-- `main_call2_v6`'s composed term of the arguments (named: it is used 2 times). -/
def res_main_call2_v6 (V0 : Valuation τ sig (Elt F)) : (Proc.devRef .tc main_call2_v6 : DevRef τ sig).ty.Contents (Elt F) :=
  addi (addi (trunci 32 (Host.shrui (res_main_v30 V0) (broadcastInDim S16384x1000 ![] bcast_S_S16384x1000 (constantI S_ 64 32#64))) natLt_32_64) (broadcastInDim S16384x1000 ![] bcast_S_S16384x1000 (res_main_v21 V0))) (res_main_call2_v5 V0)

set_option maxRecDepth 8192 in
/-- `main_call2_v12`'s composed term of the arguments (named: it is used 3 times). -/
def res_main_call2_v12 (V0 : Valuation τ sig (Elt F)) : (Proc.devRef .tc main_call2_v12 : DevRef τ sig).ty.Contents (Elt F) :=
  xori (res_main_call2_v6 V0) (ori (Host.shli (res_main_call2_v5 V0) (broadcastInDim S16384x1000 ![] bcast_S_S16384x1000 (constantI S_ 32 13#32))) (Host.shrui (res_main_call2_v5 V0) (broadcastInDim S16384x1000 ![] bcast_S_S16384x1000 (constantI S_ 32 19#32))))

set_option maxRecDepth 8192 in
/-- `main_call2_v13`'s composed term of the arguments (named: it is used 2 times). -/
def res_main_call2_v13 (V0 : Valuation τ sig (Elt F)) : (Proc.devRef .tc main_call2_v13 : DevRef τ sig).ty.Contents (Elt F) :=
  addi (res_main_call2_v6 V0) (res_main_call2_v12 V0)

set_option maxRecDepth 8192 in
/-- `main_call2_v19`'s composed term of the arguments (named: it is used 3 times). -/
def res_main_call2_v19 (V0 : Valuation τ sig (Elt F)) : (Proc.devRef .tc main_call2_v19 : DevRef τ sig).ty.Contents (Elt F) :=
  xori (res_main_call2_v13 V0) (ori (Host.shli (res_main_call2_v12 V0) (broadcastInDim S16384x1000 ![] bcast_S_S16384x1000 (constantI S_ 32 15#32))) (Host.shrui (res_main_call2_v12 V0) (broadcastInDim S16384x1000 ![] bcast_S_S16384x1000 (constantI S_ 32 17#32))))

set_option maxRecDepth 8192 in
/-- `main_call2_v20`'s composed term of the arguments (named: it is used 2 times). -/
def res_main_call2_v20 (V0 : Valuation τ sig (Elt F)) : (Proc.devRef .tc main_call2_v20 : DevRef τ sig).ty.Contents (Elt F) :=
  addi (res_main_call2_v13 V0) (res_main_call2_v19 V0)

set_option maxRecDepth 8192 in
/-- `main_call2_v26`'s composed term of the arguments (named: it is used 3 times). -/
def res_main_call2_v26 (V0 : Valuation τ sig (Elt F)) : (Proc.devRef .tc main_call2_v26 : DevRef τ sig).ty.Contents (Elt F) :=
  xori (res_main_call2_v20 V0) (ori (Host.shli (res_main_call2_v19 V0) (broadcastInDim S16384x1000 ![] bcast_S_S16384x1000 (constantI S_ 32 26#32))) (Host.shrui (res_main_call2_v19 V0) (broadcastInDim S16384x1000 ![] bcast_S_S16384x1000 (constantI S_ 32 6#32))))

set_option maxRecDepth 8192 in
/-- `main_call2_v27`'s composed term of the arguments (named: it is used 2 times). -/
def res_main_call2_v27 (V0 : Valuation τ sig (Elt F)) : (Proc.devRef .tc main_call2_v27 : DevRef τ sig).ty.Contents (Elt F) :=
  addi (res_main_call2_v20 V0) (res_main_call2_v26 V0)

set_option maxRecDepth 8192 in
/-- `main_call2_v39`'s composed term of the arguments (named: it is used 3 times). -/
def res_main_call2_v39 (V0 : Valuation τ sig (Elt F)) : (Proc.devRef .tc main_call2_v39 : DevRef τ sig).ty.Contents (Elt F) :=
  addi (addi (xori (res_main_call2_v27 V0) (ori (Host.shli (res_main_call2_v26 V0) (broadcastInDim S16384x1000 ![] bcast_S_S16384x1000 (constantI S_ 32 6#32))) (Host.shrui (res_main_call2_v26 V0) (broadcastInDim S16384x1000 ![] bcast_S_S16384x1000 (constantI S_ 32 26#32))))) (broadcastInDim S16384x1000 ![] bcast_S_S16384x1000 (res_main_call2_v1 V0))) (broadcastInDim S16384x1000 ![] bcast_S_S16384x1000 (constantI S_ 32 1#32))

set_option maxRecDepth 8192 in
/-- `main_call2_v40`'s composed term of the arguments (named: it is used 2 times). -/
def res_main_call2_v40 (V0 : Valuation τ sig (Elt F)) : (Proc.devRef .tc main_call2_v40 : DevRef τ sig).ty.Contents (Elt F) :=
  addi (addi (res_main_call2_v27 V0) (broadcastInDim S16384x1000 ![] bcast_S_S16384x1000 (res_main_v23 V0))) (res_main_call2_v39 V0)

set_option maxRecDepth 8192 in
/-- `main_call2_v46`'s composed term of the arguments (named: it is used 3 times). -/
def res_main_call2_v46 (V0 : Valuation τ sig (Elt F)) : (Proc.devRef .tc main_call2_v46 : DevRef τ sig).ty.Contents (Elt F) :=
  xori (res_main_call2_v40 V0) (ori (Host.shli (res_main_call2_v39 V0) (broadcastInDim S16384x1000 ![] bcast_S_S16384x1000 (constantI S_ 32 17#32))) (Host.shrui (res_main_call2_v39 V0) (broadcastInDim S16384x1000 ![] bcast_S_S16384x1000 (constantI S_ 32 15#32))))

set_option maxRecDepth 8192 in
/-- `main_call2_v47`'s composed term of the arguments (named: it is used 2 times). -/
def res_main_call2_v47 (V0 : Valuation τ sig (Elt F)) : (Proc.devRef .tc main_call2_v47 : DevRef τ sig).ty.Contents (Elt F) :=
  addi (res_main_call2_v40 V0) (res_main_call2_v46 V0)

set_option maxRecDepth 8192 in
/-- `main_call2_v53`'s composed term of the arguments (named: it is used 3 times). -/
def res_main_call2_v53 (V0 : Valuation τ sig (Elt F)) : (Proc.devRef .tc main_call2_v53 : DevRef τ sig).ty.Contents (Elt F) :=
  xori (res_main_call2_v47 V0) (ori (Host.shli (res_main_call2_v46 V0) (broadcastInDim S16384x1000 ![] bcast_S_S16384x1000 (constantI S_ 32 29#32))) (Host.shrui (res_main_call2_v46 V0) (broadcastInDim S16384x1000 ![] bcast_S_S16384x1000 (constantI S_ 32 3#32))))

set_option maxRecDepth 8192 in
/-- `main_call2_v54`'s composed term of the arguments (named: it is used 2 times). -/
def res_main_call2_v54 (V0 : Valuation τ sig (Elt F)) : (Proc.devRef .tc main_call2_v54 : DevRef τ sig).ty.Contents (Elt F) :=
  addi (res_main_call2_v47 V0) (res_main_call2_v53 V0)

set_option maxRecDepth 8192 in
/-- `main_call2_v60`'s composed term of the arguments (named: it is used 3 times). -/
def res_main_call2_v60 (V0 : Valuation τ sig (Elt F)) : (Proc.devRef .tc main_call2_v60 : DevRef τ sig).ty.Contents (Elt F) :=
  xori (res_main_call2_v54 V0) (ori (Host.shli (res_main_call2_v53 V0) (broadcastInDim S16384x1000 ![] bcast_S_S16384x1000 (constantI S_ 32 16#32))) (Host.shrui (res_main_call2_v53 V0) (broadcastInDim S16384x1000 ![] bcast_S_S16384x1000 (constantI S_ 32 16#32))))

set_option maxRecDepth 8192 in
/-- `main_call2_v61`'s composed term of the arguments (named: it is used 2 times). -/
def res_main_call2_v61 (V0 : Valuation τ sig (Elt F)) : (Proc.devRef .tc main_call2_v61 : DevRef τ sig).ty.Contents (Elt F) :=
  addi (res_main_call2_v54 V0) (res_main_call2_v60 V0)

set_option maxRecDepth 8192 in
/-- `main_call2_v73`'s composed term of the arguments (named: it is used 3 times). -/
def res_main_call2_v73 (V0 : Valuation τ sig (Elt F)) : (Proc.devRef .tc main_call2_v73 : DevRef τ sig).ty.Contents (Elt F) :=
  addi (addi (xori (res_main_call2_v61 V0) (ori (Host.shli (res_main_call2_v60 V0) (broadcastInDim S16384x1000 ![] bcast_S_S16384x1000 (constantI S_ 32 24#32))) (Host.shrui (res_main_call2_v60 V0) (broadcastInDim S16384x1000 ![] bcast_S_S16384x1000 (constantI S_ 32 8#32))))) (broadcastInDim S16384x1000 ![] bcast_S_S16384x1000 (res_main_v21 V0))) (broadcastInDim S16384x1000 ![] bcast_S_S16384x1000 (constantI S_ 32 2#32))

set_option maxRecDepth 8192 in
/-- `main_call2_v74`'s composed term of the arguments (named: it is used 2 times). -/
def res_main_call2_v74 (V0 : Valuation τ sig (Elt F)) : (Proc.devRef .tc main_call2_v74 : DevRef τ sig).ty.Contents (Elt F) :=
  addi (addi (res_main_call2_v61 V0) (broadcastInDim S16384x1000 ![] bcast_S_S16384x1000 (res_main_call2_v1 V0))) (res_main_call2_v73 V0)

set_option maxRecDepth 8192 in
/-- `main_call2_v80`'s composed term of the arguments (named: it is used 3 times). -/
def res_main_call2_v80 (V0 : Valuation τ sig (Elt F)) : (Proc.devRef .tc main_call2_v80 : DevRef τ sig).ty.Contents (Elt F) :=
  xori (res_main_call2_v74 V0) (ori (Host.shli (res_main_call2_v73 V0) (broadcastInDim S16384x1000 ![] bcast_S_S16384x1000 (constantI S_ 32 13#32))) (Host.shrui (res_main_call2_v73 V0) (broadcastInDim S16384x1000 ![] bcast_S_S16384x1000 (constantI S_ 32 19#32))))

set_option maxRecDepth 8192 in
/-- `main_call2_v81`'s composed term of the arguments (named: it is used 2 times). -/
def res_main_call2_v81 (V0 : Valuation τ sig (Elt F)) : (Proc.devRef .tc main_call2_v81 : DevRef τ sig).ty.Contents (Elt F) :=
  addi (res_main_call2_v74 V0) (res_main_call2_v80 V0)

set_option maxRecDepth 8192 in
/-- `main_call2_v87`'s composed term of the arguments (named: it is used 3 times). -/
def res_main_call2_v87 (V0 : Valuation τ sig (Elt F)) : (Proc.devRef .tc main_call2_v87 : DevRef τ sig).ty.Contents (Elt F) :=
  xori (res_main_call2_v81 V0) (ori (Host.shli (res_main_call2_v80 V0) (broadcastInDim S16384x1000 ![] bcast_S_S16384x1000 (constantI S_ 32 15#32))) (Host.shrui (res_main_call2_v80 V0) (broadcastInDim S16384x1000 ![] bcast_S_S16384x1000 (constantI S_ 32 17#32))))

set_option maxRecDepth 8192 in
/-- `main_call2_v88`'s composed term of the arguments (named: it is used 2 times). -/
def res_main_call2_v88 (V0 : Valuation τ sig (Elt F)) : (Proc.devRef .tc main_call2_v88 : DevRef τ sig).ty.Contents (Elt F) :=
  addi (res_main_call2_v81 V0) (res_main_call2_v87 V0)

set_option maxRecDepth 8192 in
/-- `main_call2_v94`'s composed term of the arguments (named: it is used 3 times). -/
def res_main_call2_v94 (V0 : Valuation τ sig (Elt F)) : (Proc.devRef .tc main_call2_v94 : DevRef τ sig).ty.Contents (Elt F) :=
  xori (res_main_call2_v88 V0) (ori (Host.shli (res_main_call2_v87 V0) (broadcastInDim S16384x1000 ![] bcast_S_S16384x1000 (constantI S_ 32 26#32))) (Host.shrui (res_main_call2_v87 V0) (broadcastInDim S16384x1000 ![] bcast_S_S16384x1000 (constantI S_ 32 6#32))))

set_option maxRecDepth 8192 in
/-- `main_call2_v95`'s composed term of the arguments (named: it is used 2 times). -/
def res_main_call2_v95 (V0 : Valuation τ sig (Elt F)) : (Proc.devRef .tc main_call2_v95 : DevRef τ sig).ty.Contents (Elt F) :=
  addi (res_main_call2_v88 V0) (res_main_call2_v94 V0)

set_option maxRecDepth 8192 in
/-- `main_call2_v107`'s composed term of the arguments (named: it is used 3 times). -/
def res_main_call2_v107 (V0 : Valuation τ sig (Elt F)) : (Proc.devRef .tc main_call2_v107 : DevRef τ sig).ty.Contents (Elt F) :=
  addi (addi (xori (res_main_call2_v95 V0) (ori (Host.shli (res_main_call2_v94 V0) (broadcastInDim S16384x1000 ![] bcast_S_S16384x1000 (constantI S_ 32 6#32))) (Host.shrui (res_main_call2_v94 V0) (broadcastInDim S16384x1000 ![] bcast_S_S16384x1000 (constantI S_ 32 26#32))))) (broadcastInDim S16384x1000 ![] bcast_S_S16384x1000 (res_main_v23 V0))) (broadcastInDim S16384x1000 ![] bcast_S_S16384x1000 (constantI S_ 32 3#32))

set_option maxRecDepth 8192 in
/-- `main_call2_v108`'s composed term of the arguments (named: it is used 2 times). -/
def res_main_call2_v108 (V0 : Valuation τ sig (Elt F)) : (Proc.devRef .tc main_call2_v108 : DevRef τ sig).ty.Contents (Elt F) :=
  addi (addi (res_main_call2_v95 V0) (broadcastInDim S16384x1000 ![] bcast_S_S16384x1000 (res_main_v21 V0))) (res_main_call2_v107 V0)

set_option maxRecDepth 8192 in
/-- `main_call2_v114`'s composed term of the arguments (named: it is used 3 times). -/
def res_main_call2_v114 (V0 : Valuation τ sig (Elt F)) : (Proc.devRef .tc main_call2_v114 : DevRef τ sig).ty.Contents (Elt F) :=
  xori (res_main_call2_v108 V0) (ori (Host.shli (res_main_call2_v107 V0) (broadcastInDim S16384x1000 ![] bcast_S_S16384x1000 (constantI S_ 32 17#32))) (Host.shrui (res_main_call2_v107 V0) (broadcastInDim S16384x1000 ![] bcast_S_S16384x1000 (constantI S_ 32 15#32))))

set_option maxRecDepth 8192 in
/-- `main_call2_v115`'s composed term of the arguments (named: it is used 2 times). -/
def res_main_call2_v115 (V0 : Valuation τ sig (Elt F)) : (Proc.devRef .tc main_call2_v115 : DevRef τ sig).ty.Contents (Elt F) :=
  addi (res_main_call2_v108 V0) (res_main_call2_v114 V0)

set_option maxRecDepth 8192 in
/-- `main_call2_v121`'s composed term of the arguments (named: it is used 3 times). -/
def res_main_call2_v121 (V0 : Valuation τ sig (Elt F)) : (Proc.devRef .tc main_call2_v121 : DevRef τ sig).ty.Contents (Elt F) :=
  xori (res_main_call2_v115 V0) (ori (Host.shli (res_main_call2_v114 V0) (broadcastInDim S16384x1000 ![] bcast_S_S16384x1000 (constantI S_ 32 29#32))) (Host.shrui (res_main_call2_v114 V0) (broadcastInDim S16384x1000 ![] bcast_S_S16384x1000 (constantI S_ 32 3#32))))

set_option maxRecDepth 8192 in
/-- `main_call2_v122`'s composed term of the arguments (named: it is used 2 times). -/
def res_main_call2_v122 (V0 : Valuation τ sig (Elt F)) : (Proc.devRef .tc main_call2_v122 : DevRef τ sig).ty.Contents (Elt F) :=
  addi (res_main_call2_v115 V0) (res_main_call2_v121 V0)

set_option maxRecDepth 8192 in
/-- `main_call2_v128`'s composed term of the arguments (named: it is used 3 times). -/
def res_main_call2_v128 (V0 : Valuation τ sig (Elt F)) : (Proc.devRef .tc main_call2_v128 : DevRef τ sig).ty.Contents (Elt F) :=
  xori (res_main_call2_v122 V0) (ori (Host.shli (res_main_call2_v121 V0) (broadcastInDim S16384x1000 ![] bcast_S_S16384x1000 (constantI S_ 32 16#32))) (Host.shrui (res_main_call2_v121 V0) (broadcastInDim S16384x1000 ![] bcast_S_S16384x1000 (constantI S_ 32 16#32))))

set_option maxRecDepth 8192 in
/-- `main_call2_v129`'s composed term of the arguments (named: it is used 2 times). -/
def res_main_call2_v129 (V0 : Valuation τ sig (Elt F)) : (Proc.devRef .tc main_call2_v129 : DevRef τ sig).ty.Contents (Elt F) :=
  addi (res_main_call2_v122 V0) (res_main_call2_v128 V0)

set_option maxRecDepth 8192 in
/-- `main_call2_v141`'s composed term of the arguments (named: it is used 3 times). -/
def res_main_call2_v141 (V0 : Valuation τ sig (Elt F)) : (Proc.devRef .tc main_call2_v141 : DevRef τ sig).ty.Contents (Elt F) :=
  addi (addi (xori (res_main_call2_v129 V0) (ori (Host.shli (res_main_call2_v128 V0) (broadcastInDim S16384x1000 ![] bcast_S_S16384x1000 (constantI S_ 32 24#32))) (Host.shrui (res_main_call2_v128 V0) (broadcastInDim S16384x1000 ![] bcast_S_S16384x1000 (constantI S_ 32 8#32))))) (broadcastInDim S16384x1000 ![] bcast_S_S16384x1000 (res_main_call2_v1 V0))) (broadcastInDim S16384x1000 ![] bcast_S_S16384x1000 (constantI S_ 32 4#32))

set_option maxRecDepth 8192 in
/-- `main_call2_v142`'s composed term of the arguments (named: it is used 2 times). -/
def res_main_call2_v142 (V0 : Valuation τ sig (Elt F)) : (Proc.devRef .tc main_call2_v142 : DevRef τ sig).ty.Contents (Elt F) :=
  addi (addi (res_main_call2_v129 V0) (broadcastInDim S16384x1000 ![] bcast_S_S16384x1000 (res_main_v23 V0))) (res_main_call2_v141 V0)

set_option maxRecDepth 8192 in
/-- `main_call2_v148`'s composed term of the arguments (named: it is used 3 times). -/
def res_main_call2_v148 (V0 : Valuation τ sig (Elt F)) : (Proc.devRef .tc main_call2_v148 : DevRef τ sig).ty.Contents (Elt F) :=
  xori (res_main_call2_v142 V0) (ori (Host.shli (res_main_call2_v141 V0) (broadcastInDim S16384x1000 ![] bcast_S_S16384x1000 (constantI S_ 32 13#32))) (Host.shrui (res_main_call2_v141 V0) (broadcastInDim S16384x1000 ![] bcast_S_S16384x1000 (constantI S_ 32 19#32))))

set_option maxRecDepth 8192 in
/-- `main_call2_v149`'s composed term of the arguments (named: it is used 2 times). -/
def res_main_call2_v149 (V0 : Valuation τ sig (Elt F)) : (Proc.devRef .tc main_call2_v149 : DevRef τ sig).ty.Contents (Elt F) :=
  addi (res_main_call2_v142 V0) (res_main_call2_v148 V0)

set_option maxRecDepth 8192 in
/-- `main_call2_v155`'s composed term of the arguments (named: it is used 3 times). -/
def res_main_call2_v155 (V0 : Valuation τ sig (Elt F)) : (Proc.devRef .tc main_call2_v155 : DevRef τ sig).ty.Contents (Elt F) :=
  xori (res_main_call2_v149 V0) (ori (Host.shli (res_main_call2_v148 V0) (broadcastInDim S16384x1000 ![] bcast_S_S16384x1000 (constantI S_ 32 15#32))) (Host.shrui (res_main_call2_v148 V0) (broadcastInDim S16384x1000 ![] bcast_S_S16384x1000 (constantI S_ 32 17#32))))

set_option maxRecDepth 8192 in
/-- `main_call2_v156`'s composed term of the arguments (named: it is used 2 times). -/
def res_main_call2_v156 (V0 : Valuation τ sig (Elt F)) : (Proc.devRef .tc main_call2_v156 : DevRef τ sig).ty.Contents (Elt F) :=
  addi (res_main_call2_v149 V0) (res_main_call2_v155 V0)

set_option maxRecDepth 8192 in
/-- `main_call2_v162`'s composed term of the arguments (named: it is used 3 times). -/
def res_main_call2_v162 (V0 : Valuation τ sig (Elt F)) : (Proc.devRef .tc main_call2_v162 : DevRef τ sig).ty.Contents (Elt F) :=
  xori (res_main_call2_v156 V0) (ori (Host.shli (res_main_call2_v155 V0) (broadcastInDim S16384x1000 ![] bcast_S_S16384x1000 (constantI S_ 32 26#32))) (Host.shrui (res_main_call2_v155 V0) (broadcastInDim S16384x1000 ![] bcast_S_S16384x1000 (constantI S_ 32 6#32))))

set_option maxRecDepth 8192 in
/-- `main_call2_v163`'s composed term of the arguments (named: it is used 2 times). -/
def res_main_call2_v163 (V0 : Valuation τ sig (Elt F)) : (Proc.devRef .tc main_call2_v163 : DevRef τ sig).ty.Contents (Elt F) :=
  addi (res_main_call2_v156 V0) (res_main_call2_v162 V0)

set_option maxRecDepth 8192 in
/-- `main_v54`'s composed term of the arguments (named: it is used 2 times). -/
def res_main_v54 (V0 : Valuation τ sig (Elt F)) : (Proc.devRef .tc main_v54 : DevRef τ sig).ty.Contents (Elt F) :=
  addf (Host.negf (Host.log (Host.negf (Host.log (maximumf (broadcastInDim S16384x1000 ![] bcast_S_S16384x1000 (constant S_ .f32 0x00800000#32)) (addf (mulf (subf (bitcastToFloat (F := F) .f32 (ori (Host.shrui (xori (addi (res_main_call2_v163 V0) (broadcastInDim S16384x1000 ![] bcast_S_S16384x1000 (res_main_call2_v1 V0))) (addi (addi (xori (res_main_call2_v163 V0) (ori (Host.shli (res_main_call2_v162 V0) (broadcastInDim S16384x1000 ![] bcast_S_S16384x1000 (constantI S_ 32 6#32))) (Host.shrui (res_main_call2_v162 V0) (broadcastInDim S16384x1000 ![] bcast_S_S16384x1000 (constantI S_ 32 26#32))))) (broadcastInDim S16384x1000 ![] bcast_S_S16384x1000 (res_main_v21 V0))) (broadcastInDim S16384x1000 ![] bcast_S_S16384x1000 (constantI S_ 32 5#32)))) (broadcastInDim S16384x1000 ![] bcast_S_S16384x1000 (constantI S_ 32 9#32))) (broadcastInDim S16384x1000 ![] bcast_S_S16384x1000 (constantI S_ 32 1065353216#32)))) (broadcastInDim S16384x1000 ![] bcast_S_S16384x1000 (constant S_ .f32 0x3F800000#32))) (broadcastInDim S16384x1000 ![] bcast_S_S16384x1000 (constant S_ .f32 0x3F800000#32))) (broadcastInDim S16384x1000 ![] bcast_S_S16384x1000 (constant S_ .f32 0x00800000#32)))))))) (Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S16384x1000 32 1

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

/-- The device's buffer contents before @main's first window. -/
def val0 (V0 : Valuation τ sig (Elt F)) : Valuation τ sig (Elt F) := V0
/-- They are the contents at the start. -/
theorem val0_at (V0 : Valuation τ sig (Elt F)) (r : Ref sig .tc) : val0 V0 (no_index (Proc.devRef .tc r)) = V0 (Proc.devRef .tc r) := rfl
/-- The arguments. -/
abbrev args : List (Ref sig .tc) := [main_arg0, main_arg1, main_arg2, main_arg3]

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_call0_v0, main_call0_v1, main_call0_v2, main_call0_v3, main_call0_v4, main_v0, main_v1, main_v2, main_v3, main_v4, main_v5, main_cst, main_v6, main_v7, main_v8, main_v9, main_v10, main_cst_0, main_call1_v0, main_call1_v1, main_v11, main_v12, main_c, main_c_1, main_v13, main_v14, main_v15, main_c_2, main_v16, main_v17]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_arg (V0 : Valuation τ sig (Elt F)) (r : Ref sig .tc) (h : r ∈ args) : val0_1 V0 (Proc.devRef .tc r) = V0 (Proc.devRef .tc r) :=
  (val0_1_keep V0 r ((by decide : ∀ r ∈ args, r ∉ ops_part0_0_W) r h)).trans (val0_at V0 r)
set_option maxRecDepth 8192 in
set_option maxHeartbeats 2000000 in
theorem val0_1_main_v12 (V0 : Valuation τ sig (Elt F)) : val0_1 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) := by
  unfold val0_1
  simp only [ops_part0_0, TRef.binary, TRef.nullary, TRef.unary, TRef.toBuf, TRef.ofBuf, cast_eq]
  after_results_simp
  simp only [val0_at] <;> rfl
set_option maxRecDepth 8192 in
set_option maxHeartbeats 2000000 in
theorem val0_1_main_v15 (V0 : Valuation τ sig (Elt F)) : val0_1 V0 (no_index (Proc.devRef .tc main_v15)) = broadcastInDim S1 ![] bcast_S_S1 (id (Host.shrui (res_main_c V0) (constantI S_ 32 32#32))) := by
  unfold val0_1
  simp only [ops_part0_0, TRef.binary, TRef.nullary, TRef.unary, TRef.toBuf, TRef.ofBuf, cast_eq]
  after_results_simp
  all_goals rfl
set_option maxRecDepth 8192 in
set_option maxHeartbeats 2000000 in
theorem val0_1_main_v17 (V0 : Valuation τ sig (Elt F)) : val0_1 V0 (no_index (Proc.devRef .tc main_v17)) = id (andi (res_main_c V0) (constantI S_ 32 4294967295#32)) := by
  unfold val0_1
  simp only [ops_part0_0, TRef.binary, TRef.nullary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v18, main_v19, main_v20, main_v21, main_v22, main_v23, main_v24, main_v25, main_c_3, main_v26, main_v27, main_c_4, main_v28, main_v29, main_v30, main_c_5, main_v31, main_v32, main_v33, main_v34, main_call2_v0, main_call2_c, main_call2_v1, main_call2_v2, main_call2_v3, main_call2_v4, main_call2_v5, main_call2_v6, main_call2_c_0, main_call2_v7]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_arg (V0 : Valuation τ sig (Elt F)) (r : Ref sig .tc) (h : r ∈ args) : val0_2 V0 (Proc.devRef .tc r) = V0 (Proc.devRef .tc r) :=
  (val0_2_keep V0 r ((by decide : ∀ r ∈ args, r ∉ ops_part0_1_W) r h)).trans (val0_1_arg V0 r h)
theorem val0_2_main_v12 (V0 : Valuation τ sig (Elt F)) : val0_2 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_2_keep V0 main_v12 (by decide)).trans (val0_1_main_v12 V0)
set_option maxRecDepth 8192 in
set_option maxHeartbeats 2000000 in
theorem val0_2_main_v21 (V0 : Valuation τ sig (Elt F)) : val0_2 V0 (no_index (Proc.devRef .tc main_v21)) = res_main_v21 V0 := by
  unfold val0_2
  simp only [ops_part0_1, TRef.binary, TRef.nullary, TRef.unary, TRef.toBuf, TRef.ofBuf, cast_eq]
  after_results_simp
  simp only [val0_1_main_v17, val0_1_main_v15] <;> rfl
set_option maxRecDepth 8192 in
set_option maxHeartbeats 2000000 in
theorem val0_2_main_v23 (V0 : Valuation τ sig (Elt F)) : val0_2 V0 (no_index (Proc.devRef .tc main_v23)) = res_main_v23 V0 := by
  unfold val0_2
  simp only [ops_part0_1, TRef.binary, TRef.nullary, TRef.unary, TRef.toBuf, TRef.ofBuf, cast_eq]
  after_results_simp
  simp only [val0_1_main_v17, val0_1_main_v15] <;> rfl
set_option maxRecDepth 8192 in
set_option maxHeartbeats 2000000 in
theorem val0_2_main_call2_v1 (V0 : Valuation τ sig (Elt F)) : val0_2 V0 (no_index (Proc.devRef .tc main_call2_v1)) = res_main_call2_v1 V0 := by
  unfold val0_2
  simp only [ops_part0_1, TRef.binary, TRef.nullary, TRef.unary, TRef.toBuf, TRef.ofBuf, cast_eq]
  after_results_simp
  simp only [val0_1_main_v17, val0_1_main_v15] <;> rfl
set_option maxRecDepth 8192 in
set_option maxHeartbeats 2000000 in
theorem val0_2_main_call2_v5 (V0 : Valuation τ sig (Elt F)) : val0_2 V0 (no_index (Proc.devRef .tc main_call2_v5)) = res_main_call2_v5 V0 := by
  unfold val0_2
  simp only [ops_part0_1, TRef.binary, TRef.nullary, TRef.unary, TRef.toBuf, TRef.ofBuf, cast_eq]
  after_results_simp
  simp only [val0_1_main_v17, val0_1_main_v15] <;> rfl
set_option maxRecDepth 8192 in
set_option maxHeartbeats 2000000 in
theorem val0_2_main_call2_v6 (V0 : Valuation τ sig (Elt F)) : val0_2 V0 (no_index (Proc.devRef .tc main_call2_v6)) = res_main_call2_v6 V0 := by
  unfold val0_2
  simp only [ops_part0_1, TRef.binary, TRef.nullary, TRef.unary, TRef.toBuf, TRef.ofBuf, cast_eq]
  after_results_simp
  simp only [val0_1_main_v17, val0_1_main_v15] <;> rfl
set_option maxRecDepth 8192 in
set_option maxHeartbeats 2000000 in
theorem val0_2_main_call2_v7 (V0 : Valuation τ sig (Elt F)) : val0_2 V0 (no_index (Proc.devRef .tc main_call2_v7)) = broadcastInDim S16384x1000 ![] bcast_S_S16384x1000 (constantI S_ 32 13#32) := by
  unfold val0_2
  simp only [ops_part0_1, TRef.binary, TRef.nullary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call2_v8, main_call2_c_1, main_call2_v9, main_call2_v10, main_call2_v11, main_call2_v12, main_call2_v13, main_call2_c_2, main_call2_v14, main_call2_v15, main_call2_c_3, main_call2_v16, main_call2_v17, main_call2_v18, main_call2_v19, main_call2_v20, main_call2_c_4, main_call2_v21, main_call2_v22, main_call2_c_5, main_call2_v23, main_call2_v24, main_call2_v25, main_call2_v26, main_call2_v27, main_call2_c_6, main_call2_v28, main_call2_v29, main_call2_c_7, main_call2_v30]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_arg (V0 : Valuation τ sig (Elt F)) (r : Ref sig .tc) (h : r ∈ args) : val0_3 V0 (Proc.devRef .tc r) = V0 (Proc.devRef .tc r) :=
  (val0_3_keep V0 r ((by decide : ∀ r ∈ args, r ∉ ops_part0_2_W) r h)).trans (val0_2_arg V0 r h)
theorem val0_3_main_v12 (V0 : Valuation τ sig (Elt F)) : val0_3 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_3_keep V0 main_v12 (by decide)).trans (val0_2_main_v12 V0)
theorem val0_3_main_v21 (V0 : Valuation τ sig (Elt F)) : val0_3 V0 (no_index (Proc.devRef .tc main_v21)) = res_main_v21 V0 :=
  (val0_3_keep V0 main_v21 (by decide)).trans (val0_2_main_v21 V0)
theorem val0_3_main_v23 (V0 : Valuation τ sig (Elt F)) : val0_3 V0 (no_index (Proc.devRef .tc main_v23)) = res_main_v23 V0 :=
  (val0_3_keep V0 main_v23 (by decide)).trans (val0_2_main_v23 V0)
theorem val0_3_main_call2_v1 (V0 : Valuation τ sig (Elt F)) : val0_3 V0 (no_index (Proc.devRef .tc main_call2_v1)) = res_main_call2_v1 V0 :=
  (val0_3_keep V0 main_call2_v1 (by decide)).trans (val0_2_main_call2_v1 V0)
set_option maxRecDepth 8192 in
set_option maxHeartbeats 2000000 in
theorem val0_3_main_call2_v26 (V0 : Valuation τ sig (Elt F)) : val0_3 V0 (no_index (Proc.devRef .tc main_call2_v26)) = res_main_call2_v26 V0 := by
  unfold val0_3
  simp only [ops_part0_2, TRef.binary, TRef.nullary, TRef.unary, TRef.toBuf, TRef.ofBuf, cast_eq]
  after_results_simp
  simp only [val0_2_main_call2_v5, val0_2_main_call2_v7, val0_2_main_call2_v6] <;> rfl
set_option maxRecDepth 8192 in
set_option maxHeartbeats 2000000 in
theorem val0_3_main_call2_v27 (V0 : Valuation τ sig (Elt F)) : val0_3 V0 (no_index (Proc.devRef .tc main_call2_v27)) = res_main_call2_v27 V0 := by
  unfold val0_3
  simp only [ops_part0_2, TRef.binary, TRef.nullary, TRef.unary, TRef.toBuf, TRef.ofBuf, cast_eq]
  after_results_simp
  simp only [val0_2_main_call2_v5, val0_2_main_call2_v7, val0_2_main_call2_v6] <;> rfl
set_option maxRecDepth 8192 in
set_option maxHeartbeats 2000000 in
theorem val0_3_main_call2_v29 (V0 : Valuation τ sig (Elt F)) : val0_3 V0 (no_index (Proc.devRef .tc main_call2_v29)) = Host.shli (res_main_call2_v26 V0) (broadcastInDim S16384x1000 ![] bcast_S_S16384x1000 (constantI S_ 32 6#32)) := by
  unfold val0_3
  simp only [ops_part0_2, TRef.binary, TRef.nullary, TRef.unary, TRef.toBuf, TRef.ofBuf, cast_eq]
  after_results_simp
  simp only [val0_2_main_call2_v5, val0_2_main_call2_v7, val0_2_main_call2_v6] <;> rfl
set_option maxRecDepth 8192 in
set_option maxHeartbeats 2000000 in
theorem val0_3_main_call2_v30 (V0 : Valuation τ sig (Elt F)) : val0_3 V0 (no_index (Proc.devRef .tc main_call2_v30)) = broadcastInDim S16384x1000 ![] bcast_S_S16384x1000 (constantI S_ 32 26#32) := by
  unfold val0_3
  simp only [ops_part0_2, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call2_v31, main_call2_v32, main_call2_v33, main_call2_v34, main_call2_v35, main_call2_v36, main_call2_v37, main_call2_c_8, main_call2_v38, main_call2_v39, main_call2_v40, main_call2_c_9, main_call2_v41, main_call2_v42, main_call2_c_10, main_call2_v43, main_call2_v44, main_call2_v45, main_call2_v46, main_call2_v47, main_call2_c_11, main_call2_v48, main_call2_v49, main_call2_c_12, main_call2_v50, main_call2_v51, main_call2_v52, main_call2_v53, main_call2_v54, main_call2_c_13]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_arg (V0 : Valuation τ sig (Elt F)) (r : Ref sig .tc) (h : r ∈ args) : val0_4 V0 (Proc.devRef .tc r) = V0 (Proc.devRef .tc r) :=
  (val0_4_keep V0 r ((by decide : ∀ r ∈ args, r ∉ ops_part0_3_W) r h)).trans (val0_3_arg V0 r h)
theorem val0_4_main_v12 (V0 : Valuation τ sig (Elt F)) : val0_4 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_4_keep V0 main_v12 (by decide)).trans (val0_3_main_v12 V0)
theorem val0_4_main_v21 (V0 : Valuation τ sig (Elt F)) : val0_4 V0 (no_index (Proc.devRef .tc main_v21)) = res_main_v21 V0 :=
  (val0_4_keep V0 main_v21 (by decide)).trans (val0_3_main_v21 V0)
theorem val0_4_main_v23 (V0 : Valuation τ sig (Elt F)) : val0_4 V0 (no_index (Proc.devRef .tc main_v23)) = res_main_v23 V0 :=
  (val0_4_keep V0 main_v23 (by decide)).trans (val0_3_main_v23 V0)
theorem val0_4_main_call2_v1 (V0 : Valuation τ sig (Elt F)) : val0_4 V0 (no_index (Proc.devRef .tc main_call2_v1)) = res_main_call2_v1 V0 :=
  (val0_4_keep V0 main_call2_v1 (by decide)).trans (val0_3_main_call2_v1 V0)
set_option maxRecDepth 8192 in
set_option maxHeartbeats 2000000 in
theorem val0_4_main_call2_v53 (V0 : Valuation τ sig (Elt F)) : val0_4 V0 (no_index (Proc.devRef .tc main_call2_v53)) = res_main_call2_v53 V0 := by
  unfold val0_4
  simp only [ops_part0_3, TRef.binary, TRef.nullary, TRef.unary, TRef.toBuf, TRef.ofBuf, cast_eq]
  after_results_simp
  simp only [val0_3_main_call2_v1, val0_3_main_call2_v30, val0_3_main_call2_v26, val0_3_main_call2_v29, val0_3_main_call2_v27, val0_3_main_v23] <;> rfl
set_option maxRecDepth 8192 in
set_option maxHeartbeats 2000000 in
theorem val0_4_main_call2_v54 (V0 : Valuation τ sig (Elt F)) : val0_4 V0 (no_index (Proc.devRef .tc main_call2_v54)) = res_main_call2_v54 V0 := by
  unfold val0_4
  simp only [ops_part0_3, TRef.binary, TRef.nullary, TRef.unary, TRef.toBuf, TRef.ofBuf, cast_eq]
  after_results_simp
  simp only [val0_3_main_call2_v1, val0_3_main_call2_v30, val0_3_main_call2_v26, val0_3_main_call2_v29, val0_3_main_call2_v27, val0_3_main_v23] <;> rfl
set_option maxRecDepth 8192 in
set_option maxHeartbeats 2000000 in
theorem val0_4_main_call2_c_13 (V0 : Valuation τ sig (Elt F)) : val0_4 V0 (no_index (Proc.devRef .tc main_call2_c_13)) = constantI S_ 32 16#32 := by
  unfold val0_4
  simp only [ops_part0_3, TRef.binary, TRef.nullary, TRef.unary, TRef.toBuf, TRef.ofBuf, cast_eq]
  after_results_simp
  all_goals rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call2_v55, main_call2_v56, main_call2_c_14, main_call2_v57, main_call2_v58, main_call2_v59, main_call2_v60, main_call2_v61, main_call2_c_15, main_call2_v62, main_call2_v63, main_call2_c_16, main_call2_v64, main_call2_v65, main_call2_v66, main_call2_v67, main_call2_v68, main_call2_v69, main_call2_v70, main_call2_v71, main_call2_c_17, main_call2_v72, main_call2_v73, main_call2_v74, main_call2_c_18, main_call2_v75, main_call2_v76, main_call2_c_19, main_call2_v77, main_call2_v78]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_arg (V0 : Valuation τ sig (Elt F)) (r : Ref sig .tc) (h : r ∈ args) : val0_5 V0 (Proc.devRef .tc r) = V0 (Proc.devRef .tc r) :=
  (val0_5_keep V0 r ((by decide : ∀ r ∈ args, r ∉ ops_part0_4_W) r h)).trans (val0_4_arg V0 r h)
theorem val0_5_main_v12 (V0 : Valuation τ sig (Elt F)) : val0_5 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_5_keep V0 main_v12 (by decide)).trans (val0_4_main_v12 V0)
theorem val0_5_main_v21 (V0 : Valuation τ sig (Elt F)) : val0_5 V0 (no_index (Proc.devRef .tc main_v21)) = res_main_v21 V0 :=
  (val0_5_keep V0 main_v21 (by decide)).trans (val0_4_main_v21 V0)
theorem val0_5_main_v23 (V0 : Valuation τ sig (Elt F)) : val0_5 V0 (no_index (Proc.devRef .tc main_v23)) = res_main_v23 V0 :=
  (val0_5_keep V0 main_v23 (by decide)).trans (val0_4_main_v23 V0)
theorem val0_5_main_call2_v1 (V0 : Valuation τ sig (Elt F)) : val0_5 V0 (no_index (Proc.devRef .tc main_call2_v1)) = res_main_call2_v1 V0 :=
  (val0_5_keep V0 main_call2_v1 (by decide)).trans (val0_4_main_call2_v1 V0)
set_option maxRecDepth 8192 in
set_option maxHeartbeats 2000000 in
theorem val0_5_main_call2_v74 (V0 : Valuation τ sig (Elt F)) : val0_5 V0 (no_index (Proc.devRef .tc main_call2_v74)) = res_main_call2_v74 V0 := by
  unfold val0_5
  simp only [ops_part0_4, TRef.binary, TRef.nullary, TRef.unary, TRef.toBuf, TRef.ofBuf, cast_eq]
  after_results_simp
  simp only [val0_4_main_v21, val0_4_main_call2_v53, val0_4_main_call2_c_13, val0_4_main_call2_v54, val0_4_main_call2_v1] <;> rfl
set_option maxRecDepth 8192 in
set_option maxHeartbeats 2000000 in
theorem val0_5_main_call2_v76 (V0 : Valuation τ sig (Elt F)) : val0_5 V0 (no_index (Proc.devRef .tc main_call2_v76)) = Host.shli (res_main_call2_v73 V0) (broadcastInDim S16384x1000 ![] bcast_S_S16384x1000 (constantI S_ 32 13#32)) := by
  unfold val0_5
  simp only [ops_part0_4, TRef.binary, TRef.nullary, TRef.unary, TRef.toBuf, TRef.ofBuf, cast_eq]
  after_results_simp
  simp only [val0_4_main_v21, val0_4_main_call2_v53, val0_4_main_call2_c_13, val0_4_main_call2_v54] <;> rfl
set_option maxRecDepth 8192 in
set_option maxHeartbeats 2000000 in
theorem val0_5_main_call2_v78 (V0 : Valuation τ sig (Elt F)) : val0_5 V0 (no_index (Proc.devRef .tc main_call2_v78)) = Host.shrui (res_main_call2_v73 V0) (broadcastInDim S16384x1000 ![] bcast_S_S16384x1000 (constantI S_ 32 19#32)) := by
  unfold val0_5
  simp only [ops_part0_4, TRef.binary, TRef.nullary, TRef.unary, TRef.toBuf, TRef.ofBuf, cast_eq]
  after_results_simp
  simp only [val0_4_main_v21, val0_4_main_call2_v53, val0_4_main_call2_c_13, val0_4_main_call2_v54] <;> rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call2_v79, main_call2_v80, main_call2_v81, main_call2_c_20, main_call2_v82, main_call2_v83, main_call2_c_21, main_call2_v84, main_call2_v85, main_call2_v86, main_call2_v87, main_call2_v88, main_call2_c_22, main_call2_v89, main_call2_v90, main_call2_c_23, main_call2_v91, main_call2_v92, main_call2_v93, main_call2_v94, main_call2_v95, main_call2_c_24, main_call2_v96, main_call2_v97, main_call2_c_25, main_call2_v98, main_call2_v99, main_call2_v100, main_call2_v101, main_call2_v102]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_arg (V0 : Valuation τ sig (Elt F)) (r : Ref sig .tc) (h : r ∈ args) : val0_6 V0 (Proc.devRef .tc r) = V0 (Proc.devRef .tc r) :=
  (val0_6_keep V0 r ((by decide : ∀ r ∈ args, r ∉ ops_part0_5_W) r h)).trans (val0_5_arg V0 r h)
theorem val0_6_main_v12 (V0 : Valuation τ sig (Elt F)) : val0_6 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_6_keep V0 main_v12 (by decide)).trans (val0_5_main_v12 V0)
theorem val0_6_main_v21 (V0 : Valuation τ sig (Elt F)) : val0_6 V0 (no_index (Proc.devRef .tc main_v21)) = res_main_v21 V0 :=
  (val0_6_keep V0 main_v21 (by decide)).trans (val0_5_main_v21 V0)
theorem val0_6_main_v23 (V0 : Valuation τ sig (Elt F)) : val0_6 V0 (no_index (Proc.devRef .tc main_v23)) = res_main_v23 V0 :=
  (val0_6_keep V0 main_v23 (by decide)).trans (val0_5_main_v23 V0)
theorem val0_6_main_call2_v1 (V0 : Valuation τ sig (Elt F)) : val0_6 V0 (no_index (Proc.devRef .tc main_call2_v1)) = res_main_call2_v1 V0 :=
  (val0_6_keep V0 main_call2_v1 (by decide)).trans (val0_5_main_call2_v1 V0)
set_option maxRecDepth 8192 in
set_option maxHeartbeats 2000000 in
theorem val0_6_main_call2_v95 (V0 : Valuation τ sig (Elt F)) : val0_6 V0 (no_index (Proc.devRef .tc main_call2_v95)) = res_main_call2_v95 V0 := by
  unfold val0_6
  simp only [ops_part0_5, TRef.binary, TRef.nullary, TRef.unary, TRef.toBuf, TRef.ofBuf, cast_eq]
  after_results_simp
  simp only [val0_5_main_call2_v78, val0_5_main_call2_v76, val0_5_main_call2_v74] <;> rfl
set_option maxRecDepth 8192 in
set_option maxHeartbeats 2000000 in
theorem val0_6_main_call2_v101 (V0 : Valuation τ sig (Elt F)) : val0_6 V0 (no_index (Proc.devRef .tc main_call2_v101)) = xori (res_main_call2_v95 V0) (ori (Host.shli (res_main_call2_v94 V0) (broadcastInDim S16384x1000 ![] bcast_S_S16384x1000 (constantI S_ 32 6#32))) (Host.shrui (res_main_call2_v94 V0) (broadcastInDim S16384x1000 ![] bcast_S_S16384x1000 (constantI S_ 32 26#32)))) := by
  unfold val0_6
  simp only [ops_part0_5, TRef.binary, TRef.nullary, TRef.unary, TRef.toBuf, TRef.ofBuf, cast_eq]
  after_results_simp
  simp only [val0_5_main_call2_v78, val0_5_main_call2_v76, val0_5_main_call2_v74] <;> rfl
set_option maxRecDepth 8192 in
set_option maxHeartbeats 2000000 in
theorem val0_6_main_call2_v102 (V0 : Valuation τ sig (Elt F)) : val0_6 V0 (no_index (Proc.devRef .tc main_call2_v102)) = broadcastInDim S16384x1000 ![] bcast_S_S16384x1000 (res_main_v21 V0) := by
  unfold val0_6
  simp only [ops_part0_5, TRef.binary, TRef.nullary, TRef.unary, TRef.toBuf, TRef.ofBuf, cast_eq]
  after_results_simp
  simp only [val0_5_main_v21] <;> rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call2_v103, main_call2_v104, main_call2_v105, main_call2_c_26, main_call2_v106, main_call2_v107, main_call2_v108, main_call2_c_27, main_call2_v109, main_call2_v110, main_call2_c_28, main_call2_v111, main_call2_v112, main_call2_v113, main_call2_v114, main_call2_v115, main_call2_c_29, main_call2_v116, main_call2_v117, main_call2_c_30, main_call2_v118, main_call2_v119, main_call2_v120, main_call2_v121, main_call2_v122, main_call2_c_31, main_call2_v123, main_call2_v124, main_call2_c_32, main_call2_v125]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_arg (V0 : Valuation τ sig (Elt F)) (r : Ref sig .tc) (h : r ∈ args) : val0_7 V0 (Proc.devRef .tc r) = V0 (Proc.devRef .tc r) :=
  (val0_7_keep V0 r ((by decide : ∀ r ∈ args, r ∉ ops_part0_6_W) r h)).trans (val0_6_arg V0 r h)
theorem val0_7_main_v12 (V0 : Valuation τ sig (Elt F)) : val0_7 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_7_keep V0 main_v12 (by decide)).trans (val0_6_main_v12 V0)
theorem val0_7_main_v21 (V0 : Valuation τ sig (Elt F)) : val0_7 V0 (no_index (Proc.devRef .tc main_v21)) = res_main_v21 V0 :=
  (val0_7_keep V0 main_v21 (by decide)).trans (val0_6_main_v21 V0)
theorem val0_7_main_v23 (V0 : Valuation τ sig (Elt F)) : val0_7 V0 (no_index (Proc.devRef .tc main_v23)) = res_main_v23 V0 :=
  (val0_7_keep V0 main_v23 (by decide)).trans (val0_6_main_v23 V0)
theorem val0_7_main_call2_v1 (V0 : Valuation τ sig (Elt F)) : val0_7 V0 (no_index (Proc.devRef .tc main_call2_v1)) = res_main_call2_v1 V0 :=
  (val0_7_keep V0 main_call2_v1 (by decide)).trans (val0_6_main_call2_v1 V0)
set_option maxRecDepth 8192 in
set_option maxHeartbeats 2000000 in
theorem val0_7_main_call2_v121 (V0 : Valuation τ sig (Elt F)) : val0_7 V0 (no_index (Proc.devRef .tc main_call2_v121)) = res_main_call2_v121 V0 := by
  unfold val0_7
  simp only [ops_part0_6, TRef.binary, TRef.nullary, TRef.unary, TRef.toBuf, TRef.ofBuf, cast_eq]
  after_results_simp
  simp only [val0_6_main_v23, val0_6_main_call2_v101, val0_6_main_call2_v102, val0_6_main_call2_v95] <;> rfl
set_option maxRecDepth 8192 in
set_option maxHeartbeats 2000000 in
theorem val0_7_main_call2_v122 (V0 : Valuation τ sig (Elt F)) : val0_7 V0 (no_index (Proc.devRef .tc main_call2_v122)) = res_main_call2_v122 V0 := by
  unfold val0_7
  simp only [ops_part0_6, TRef.binary, TRef.nullary, TRef.unary, TRef.toBuf, TRef.ofBuf, cast_eq]
  after_results_simp
  simp only [val0_6_main_v23, val0_6_main_call2_v101, val0_6_main_call2_v102, val0_6_main_call2_v95] <;> rfl
set_option maxRecDepth 8192 in
set_option maxHeartbeats 2000000 in
theorem val0_7_main_call2_v124 (V0 : Valuation τ sig (Elt F)) : val0_7 V0 (no_index (Proc.devRef .tc main_call2_v124)) = Host.shli (res_main_call2_v121 V0) (broadcastInDim S16384x1000 ![] bcast_S_S16384x1000 (constantI S_ 32 16#32)) := by
  unfold val0_7
  simp only [ops_part0_6, TRef.binary, TRef.nullary, TRef.unary, TRef.toBuf, TRef.ofBuf, cast_eq]
  after_results_simp
  simp only [val0_6_main_v23, val0_6_main_call2_v101, val0_6_main_call2_v102, val0_6_main_call2_v95] <;> rfl
set_option maxRecDepth 8192 in
set_option maxHeartbeats 2000000 in
theorem val0_7_main_call2_v125 (V0 : Valuation τ sig (Elt F)) : val0_7 V0 (no_index (Proc.devRef .tc main_call2_v125)) = broadcastInDim S16384x1000 ![] bcast_S_S16384x1000 (constantI S_ 32 16#32) := by
  unfold val0_7
  simp only [ops_part0_6, TRef.binary, TRef.nullary, TRef.unary, TRef.toBuf, TRef.ofBuf, cast_eq]
  after_results_simp
  all_goals rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call2_v126, main_call2_v127, main_call2_v128, main_call2_v129, main_call2_c_33, main_call2_v130, main_call2_v131, main_call2_c_34, main_call2_v132, main_call2_v133, main_call2_v134, main_call2_v135, main_call2_v136, main_call2_v137, main_call2_v138, main_call2_v139, main_call2_c_35, main_call2_v140, main_call2_v141, main_call2_v142, main_call2_c_36, main_call2_v143, main_call2_v144, main_call2_c_37, main_call2_v145, main_call2_v146, main_call2_v147, main_call2_v148, main_call2_v149, main_call2_c_38]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_arg (V0 : Valuation τ sig (Elt F)) (r : Ref sig .tc) (h : r ∈ args) : val0_8 V0 (Proc.devRef .tc r) = V0 (Proc.devRef .tc r) :=
  (val0_8_keep V0 r ((by decide : ∀ r ∈ args, r ∉ ops_part0_7_W) r h)).trans (val0_7_arg V0 r h)
theorem val0_8_main_v12 (V0 : Valuation τ sig (Elt F)) : val0_8 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_8_keep V0 main_v12 (by decide)).trans (val0_7_main_v12 V0)
theorem val0_8_main_v21 (V0 : Valuation τ sig (Elt F)) : val0_8 V0 (no_index (Proc.devRef .tc main_v21)) = res_main_v21 V0 :=
  (val0_8_keep V0 main_v21 (by decide)).trans (val0_7_main_v21 V0)
theorem val0_8_main_call2_v1 (V0 : Valuation τ sig (Elt F)) : val0_8 V0 (no_index (Proc.devRef .tc main_call2_v1)) = res_main_call2_v1 V0 :=
  (val0_8_keep V0 main_call2_v1 (by decide)).trans (val0_7_main_call2_v1 V0)
set_option maxRecDepth 8192 in
set_option maxHeartbeats 2000000 in
theorem val0_8_main_call2_v148 (V0 : Valuation τ sig (Elt F)) : val0_8 V0 (no_index (Proc.devRef .tc main_call2_v148)) = res_main_call2_v148 V0 := by
  unfold val0_8
  simp only [ops_part0_7, TRef.binary, TRef.nullary, TRef.unary, TRef.toBuf, TRef.ofBuf, cast_eq]
  after_results_simp
  simp only [val0_7_main_call2_v1, val0_7_main_call2_v125, val0_7_main_call2_v121, val0_7_main_call2_v124, val0_7_main_call2_v122, val0_7_main_v23] <;> rfl
set_option maxRecDepth 8192 in
set_option maxHeartbeats 2000000 in
theorem val0_8_main_call2_v149 (V0 : Valuation τ sig (Elt F)) : val0_8 V0 (no_index (Proc.devRef .tc main_call2_v149)) = res_main_call2_v149 V0 := by
  unfold val0_8
  simp only [ops_part0_7, TRef.binary, TRef.nullary, TRef.unary, TRef.toBuf, TRef.ofBuf, cast_eq]
  after_results_simp
  simp only [val0_7_main_call2_v1, val0_7_main_call2_v125, val0_7_main_call2_v121, val0_7_main_call2_v124, val0_7_main_call2_v122, val0_7_main_v23] <;> rfl
set_option maxRecDepth 8192 in
set_option maxHeartbeats 2000000 in
theorem val0_8_main_call2_c_38 (V0 : Valuation τ sig (Elt F)) : val0_8 V0 (no_index (Proc.devRef .tc main_call2_c_38)) = constantI S_ 32 15#32 := by
  unfold val0_8
  simp only [ops_part0_7, TRef.binary, TRef.nullary, TRef.unary, TRef.toBuf, TRef.ofBuf, cast_eq]
  after_results_simp
  all_goals rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call2_v150, main_call2_v151, main_call2_c_39, main_call2_v152, main_call2_v153, main_call2_v154, main_call2_v155, main_call2_v156, main_call2_c_40, main_call2_v157, main_call2_v158, main_call2_c_41, main_call2_v159, main_call2_v160, main_call2_v161, main_call2_v162, main_call2_v163, main_call2_c_42, main_call2_v164, main_call2_v165, main_call2_c_43, main_call2_v166, main_call2_v167, main_call2_v168, main_call2_v169, main_call2_v170, main_v35_0, main_call2_v172, main_call2_v173, main_call2_c_44]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_arg (V0 : Valuation τ sig (Elt F)) (r : Ref sig .tc) (h : r ∈ args) : val0_9 V0 (Proc.devRef .tc r) = V0 (Proc.devRef .tc r) :=
  (val0_9_keep V0 r ((by decide : ∀ r ∈ args, r ∉ ops_part0_8_W) r h)).trans (val0_8_arg V0 r h)
theorem val0_9_main_v12 (V0 : Valuation τ sig (Elt F)) : val0_9 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val0_9_keep V0 main_v12 (by decide)).trans (val0_8_main_v12 V0)
set_option maxRecDepth 8192 in
set_option maxHeartbeats 2000000 in
theorem val0_9_main_v35_0 (V0 : Valuation τ sig (Elt F)) : val0_9 V0 (no_index (Proc.devRef .tc main_v35_0)) = addi (res_main_call2_v163 V0) (broadcastInDim S16384x1000 ![] bcast_S_S16384x1000 (res_main_call2_v1 V0)) := by
  unfold val0_9
  simp only [ops_part0_8, TRef.binary, TRef.nullary, TRef.unary, TRef.toBuf, TRef.ofBuf, cast_eq]
  after_results_simp
  simp only [val0_8_main_call2_v1, val0_8_main_call2_v148, val0_8_main_call2_c_38, val0_8_main_call2_v149] <;> rfl
set_option maxRecDepth 8192 in
set_option maxHeartbeats 2000000 in
theorem val0_9_main_call2_v173 (V0 : Valuation τ sig (Elt F)) : val0_9 V0 (no_index (Proc.devRef .tc main_call2_v173)) = addi (xori (res_main_call2_v163 V0) (ori (Host.shli (res_main_call2_v162 V0) (broadcastInDim S16384x1000 ![] bcast_S_S16384x1000 (constantI S_ 32 6#32))) (Host.shrui (res_main_call2_v162 V0) (broadcastInDim S16384x1000 ![] bcast_S_S16384x1000 (constantI S_ 32 26#32))))) (broadcastInDim S16384x1000 ![] bcast_S_S16384x1000 (res_main_v21 V0)) := by
  unfold val0_9
  simp only [ops_part0_8, TRef.binary, TRef.nullary, TRef.unary, TRef.toBuf, TRef.ofBuf, cast_eq]
  after_results_simp
  simp only [val0_8_main_v21, val0_8_main_call2_v148, val0_8_main_call2_c_38, val0_8_main_call2_v149] <;> rfl
set_option maxRecDepth 8192 in
set_option maxHeartbeats 2000000 in
theorem val0_9_main_call2_c_44 (V0 : Valuation τ sig (Elt F)) : val0_9 V0 (no_index (Proc.devRef .tc main_call2_c_44)) = constantI S_ 32 5#32 := by
  unfold val0_9
  simp only [ops_part0_8, TRef.binary, TRef.nullary, TRef.unary, TRef.toBuf, TRef.ofBuf, cast_eq]
  after_results_simp
  all_goals rfl

/-- The device's buffer contents after @main's first 1 window. -/
def val1 (V0 : Valuation τ sig (Elt F)) : Valuation τ sig (Elt F) := after ops_part0_9 (val0_9 V0)
/-- The buffers that window `ops_part0_9`'s operations write. -/
abbrev ops_part0_9_W : List (Ref sig .tc) := [main_call2_v174, main_v35_1, main_v36, main_c_6, main_v37, main_v38, main_c_7, main_v39, main_v40, main_v41, main_cst_8, main_v42, main_v43, main_cst_9, main_v44, main_v45, main_cst_10, main_v46]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_9` does not write keeps its contents through it. -/
theorem val1_keep (V0 : Valuation τ sig (Elt F)) (r : Ref sig .tc) (h : r ∉ ops_part0_9_W) :
    val1 V0 (Proc.devRef .tc r) = val0_9 V0 (Proc.devRef .tc r) :=
  after_of_writes_sub ops_part0_9 _ ops_part0_9_writes h
theorem val1_arg (V0 : Valuation τ sig (Elt F)) (r : Ref sig .tc) (h : r ∈ args) : val1 V0 (Proc.devRef .tc r) = V0 (Proc.devRef .tc r) :=
  (val1_keep V0 r ((by decide : ∀ r ∈ args, r ∉ ops_part0_9_W) r h)).trans (val0_9_arg V0 r h)
theorem val1_main_v12 (V0 : Valuation τ sig (Elt F)) : val1 V0 (no_index (Proc.devRef .tc main_v12)) = Host.log (maximumf (broadcastInDim S16384x1000 ![] bcast_S_S16384x1000 (id (constant S_ .f32 0x0DA24260#32))) (addf (mulf (broadcastInDim S16384x1000 ![0, 1] bcast_S16384x1_S16384x1000_0_1 (res_main_v1 V0)) (uitofp .f32 (cmpi .eq (broadcastInDim S16384x1000 ![0, 1] bcast_S16384x1_S16384x1000_0_1 (broadcastInDim S16384x1 ![0] bcast_S16384_S16384x1_0 (V0 (Proc.devRef .tc main_arg0)))) (broadcastInDim S16384x1000 ![0, 1] bcast_S1x1000_S16384x1000_0_1 (iotaInDim S1x1000 32 1))))) (mulf (broadcastInDim S16384x1000 ![0, 1] bcast_S16384x1_S16384x1000_0_1 (subf (broadcastInDim S16384x1 ![] bcast_S_S16384x1 (constant S_ .f32 0x3F800000#32)) (res_main_v1 V0))) (broadcastInDim S16384x1000 ![0, 1] bcast_S1x1000_S16384x1000_0_1 (broadcastInDim S1x1000 ![1] bcast_S1000_S1x1000_1 (V0 (Proc.devRef .tc main_arg3))))))) :=
  (val1_keep V0 main_v12 (by decide)).trans (val0_9_main_v12 V0)
set_option maxRecDepth 8192 in
set_option maxHeartbeats 1800000 in
theorem val1_main_v45 (V0 : Valuation τ sig (Elt F)) : val1 V0 (no_index (Proc.devRef .tc main_v45)) = mulf (subf (bitcastToFloat (F := F) .f32 (ori (Host.shrui (xori (addi (res_main_call2_v163 V0) (broadcastInDim S16384x1000 ![] bcast_S_S16384x1000 (res_main_call2_v1 V0))) (addi (addi (xori (res_main_call2_v163 V0) (ori (Host.shli (res_main_call2_v162 V0) (broadcastInDim S16384x1000 ![] bcast_S_S16384x1000 (constantI S_ 32 6#32))) (Host.shrui (res_main_call2_v162 V0) (broadcastInDim S16384x1000 ![] bcast_S_S16384x1000 (constantI S_ 32 26#32))))) (broadcastInDim S16384x1000 ![] bcast_S_S16384x1000 (res_main_v21 V0))) (broadcastInDim S16384x1000 ![] bcast_S_S16384x1000 (constantI S_ 32 5#32)))) (broadcastInDim S16384x1000 ![] bcast_S_S16384x1000 (constantI S_ 32 9#32))) (broadcastInDim S16384x1000 ![] bcast_S_S16384x1000 (constantI S_ 32 1065353216#32)))) (broadcastInDim S16384x1000 ![] bcast_S_S16384x1000 (constant S_ .f32 0x3F800000#32))) (broadcastInDim S16384x1000 ![] bcast_S_S16384x1000 (constant S_ .f32 0x3F800000#32)) := by
  unfold val1
  simp only [ops_part0_9, TRef.binary, TRef.unary, TRef.toBuf, TRef.ofBuf, cast_eq]
  after_results_simp
  simp only [val0_9_main_call2_c_44, val0_9_main_call2_v173, val0_9_main_v35_0] <;> rfl
set_option maxRecDepth 8192 in
set_option maxHeartbeats 1800000 in
theorem val1_main_v46 (V0 : Valuation τ sig (Elt F)) : val1 V0 (no_index (Proc.devRef .tc main_v46)) = broadcastInDim S16384x1000 ![] bcast_S_S16384x1000 (constant S_ .f32 0x00800000#32) := by
  unfold val1
  simp only [ops_part0_9, TRef.binary, TRef.unary, TRef.toBuf, TRef.ofBuf, cast_eq]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v47, main_cst_11, main_v48, main_v49, main_v50, main_v51, main_v52, main_v53, main_v54, main_call3_v0, main_call3_cst, main_call3_c, main_call3_v1_0, main_v55, main_cst_12, main_v56, main_v57, main_v58]
set_option maxRecDepth 8192 in
theorem ops_part1_writes : (ops_part1 : List (HloOp τ sig (Elt F))).Forall fun op => op.writes ⊆ (ops_part1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_arg (V0 : Valuation τ sig (Elt F)) (r : Ref sig .tc) (h : r ∈ args) : val2 V0 (Proc.devRef .tc r) = V0 (Proc.devRef .tc r) :=
  (val2_keep V0 r ((by decide : ∀ r ∈ args, r ∉ ops_part1_W) r h)).trans (val1_arg V0 r h)
set_option maxRecDepth 8192 in
set_option maxHeartbeats 1800000 in
theorem val2_main_v58 (V0 : Valuation τ sig (Elt F)) : val2 V0 (no_index (Proc.devRef .tc main_v58)) = select (cmpf .oeq (V0 (Proc.devRef .tc main_arg1)) (broadcastInDim S16384 ![] bcast_S_S16384 (constant S_ .f32 0x3F800000#32))) (V0 (Proc.devRef .tc main_arg0)) ((fun j => (Host.argReduce reducer_argmax_f32_i32 (res_main_v54 V0) (res_main_call3_v0 V0) (res_main_call3_cst V0) (res_main_call3_c V0) reducesTo_S16384x1000_S16384_d1 h_S_ j).2)) := by
  unfold val2
  simp only [ops_part1, TRef.nullary, TRef.quaternary, TRef.ternary, TRef.toBuf, TRef.ofBuf, cast_eq]
  after_results_simp
  simp only [val1_main_v12, val1_main_v46, val1_main_v45, val1_arg V0 main_arg0 (by decide), val1_arg V0 main_arg1 (by decide)] <;> rfl

/-- The contents after all operations are those after the last stretch. -/
theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = select (cmpf .oeq ((launchContents m c) (Proc.devRef .tc main_arg1)) (broadcastInDim S16384 ![] bcast_S_S16384 (constant S_ .f32 0x3F800000#32))) ((launchContents m c) (Proc.devRef .tc main_arg0)) ((fun j => (Host.argReduce reducer_argmax_f32_i32 (res_main_v54 (launchContents m c)) (res_main_call3_v0 (launchContents m c)) (res_main_call3_cst (launchContents m c)) (res_main_call3_c (launchContents m c)) reducesTo_S16384x1000_S16384_d1 h_S_ j).2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v58).trans ((congrFun (after_ops (launchContents m c)) (Proc.devRef .tc main_v58)).trans (val2_main_v58 (launchContents m c))),
      (h c main_arg0).trans ((congrFun (after_ops (launchContents m c)) (Proc.devRef .tc main_arg0)).trans (val2_arg (launchContents m c) main_arg0 (by decide))),
      (h c main_arg1).trans ((congrFun (after_ops (launchContents m c)) (Proc.devRef .tc main_arg1)).trans (val2_arg (launchContents m c) main_arg1 (by decide))),
      (h c main_arg2).trans ((congrFun (after_ops (launchContents m c)) (Proc.devRef .tc main_arg2)).trans (val2_arg (launchContents m c) main_arg2 (by decide))),
      (h c main_arg3).trans ((congrFun (after_ops (launchContents m c)) (Proc.devRef .tc main_arg3)).trans (val2_arg (launchContents m c) main_arg3 (by decide)))⟩)
    (run_seq scopedRefs_eq scopedSems_eq defs main (fun _ => ops) main_eq (fun _ => ops_sub) m ρ fun _ => ops_fresh)

end Cert.ReferenceIdeal.Value

end
-- ==== Proof.Lanes.lean ====
/- Numbers used as rows of 64-bit lanes: `pack f n` holds `f 0, …, f (n - 1)`, lane c at the bits from 64 * c on. What addition, the
   bitwise operations and shifts do to such a number, lane by lane. -/
module

public import Mathlib.Tactic.Ring

@[expose] public section

namespace Cert.Lanes

/-- The number whose 64-bit lanes are `f 0, …, f (n - 1)`. -/
def pack (f : Nat → Nat) (n : Nat) : Nat :=
  Nat.rec 0 (fun c acc => Nat.add acc (Nat.shiftLeft (f c) (Nat.mul 64 c))) n

/-- One lane more. -/
theorem pack_succ (f : Nat → Nat) (n : Nat) : pack f (n + 1) = pack f n + f n * 2 ^ (64 * n) := by
  rw [← Nat.shiftLeft_eq]; rfl

theorem pack_zero (f : Nat → Nat) : pack f 0 = 0 := rfl

/-- Lanes that agree pack to the same number. -/
theorem pack_congr {f g : Nat → Nat} {n : Nat} (h : ∀ c, c < n → f c = g c) : pack f n = pack g n := by
  induction n with
  | zero => rfl
  | succ n ih => rw [pack_succ, pack_succ, ih fun c hc => h c (by omega), h n (by omega)]

/-- Addition, lane by lane. -/
theorem pack_add (f g : Nat → Nat) (n : Nat) : pack f n + pack g n = pack (fun c => f c + g c) n := by
  induction n with
  | zero => rfl
  | succ n ih => simp only [pack_succ]; rw [← ih]; ring

/-- A multiple, lane by lane. -/
theorem mul_pack (k : Nat) (f : Nat → Nat) (n : Nat) : k * pack f n = pack (fun c => k * f c) n := by
  induction n with
  | zero => rfl
  | succ n ih => simp only [pack_succ]; rw [← ih]; ring

/-- Subtraction, lane by lane, where no lane borrows. -/
theorem pack_sub {f g : Nat → Nat} {n : Nat} (h : ∀ c, c < n → g c ≤ f c) :
    pack f n - pack g n = pack (fun c => f c - g c) n := by
  have : pack (fun c => f c - g c) n + pack g n = pack f n := by
    rw [pack_add]; exact pack_congr fun c hc => Nat.sub_add_cancel (h c hc)
  omega

/-- A shift to the left, lane by lane. -/
theorem pack_shiftLeft (f : Nat → Nat) (n r : Nat) : pack f n <<< r = pack (fun c => f c <<< r) n := by
  simp only [Nat.shiftLeft_eq]
  rw [Nat.mul_comm, mul_pack]; exact pack_congr fun c _ => Nat.mul_comm _ _

/-- The packed number is below its lanes' room. -/
theorem pack_lt {f : Nat → Nat} (h : ∀ c, f c < 2 ^ 64) (n : Nat) : pack f n < 2 ^ (64 * n) := by
  induction n with
  | zero => simp [pack_zero]
  | succ n ih =>
    rw [pack_succ, show 64 * (n + 1) = 64 + 64 * n by ring, Nat.pow_add]
    have h1 : (f n + 1) * 2 ^ (64 * n) ≤ 2 ^ 64 * 2 ^ (64 * n) := Nat.mul_le_mul_right _ (h n)
    rw [Nat.add_mul] at h1; omega

/-- A bit of the number is a bit of one lane. -/
theorem testBit_pack {f : Nat → Nat} (h : ∀ c, f c < 2 ^ 64) (n i : Nat) :
    (pack f n).testBit i = (decide (i / 64 < n) && (f (i / 64)).testBit (i % 64)) := by
  induction n with
  | zero => simp [pack_zero]
  | succ n ih =>
    rw [pack_succ, Nat.add_comm, Nat.mul_comm, Nat.testBit_two_pow_mul_add _ (pack_lt h n)]
    by_cases hi : i < 64 * n
    · rw [if_pos hi, ih]
      have h1 : i / 64 < n := by omega
      simp [h1, Nat.lt_succ_of_lt h1]
    · rw [if_neg hi]
      by_cases h2 : i / 64 = n
      · have h3 : i - 64 * n = i % 64 := by omega
        simp [h2, h3]
      · have h3 : ¬ i / 64 < n + 1 := by omega
        have h4 : 2 ^ 64 ≤ 2 ^ (i - 64 * n) := Nat.pow_le_pow_right (by omega) (by omega)
        simp [h3, Nat.testBit_lt_two_pow (Nat.lt_of_lt_of_le (h n) h4)]

/-- Exclusive or, lane by lane. -/
theorem pack_xor {f g : Nat → Nat} (hf : ∀ c, f c < 2 ^ 64) (hg : ∀ c, g c < 2 ^ 64) (n : Nat) :
    pack f n ^^^ pack g n = pack (fun c => f c ^^^ g c) n := by
  refine Nat.eq_of_testBit_eq fun i => ?_
  rw [Nat.testBit_xor, testBit_pack hf, testBit_pack hg, testBit_pack fun c => Nat.xor_lt_two_pow (hf c) (hg c), Nat.testBit_xor]
  by_cases h : i / 64 < n <;> simp [h]

/-- And, lane by lane. -/
theorem pack_and {f g : Nat → Nat} (hf : ∀ c, f c < 2 ^ 64) (hg : ∀ c, g c < 2 ^ 64) (n : Nat) :
    pack f n &&& pack g n = pack (fun c => f c &&& g c) n := by
  refine Nat.eq_of_testBit_eq fun i => ?_
  rw [Nat.testBit_and, testBit_pack hf, testBit_pack hg, testBit_pack fun c => Nat.and_lt_two_pow _ (hg c), Nat.testBit_and]
  by_cases h : i / 64 < n <;> simp [h]

/-- A shift to the right brings a lane bits of the next one, which a mask of the other bits takes away. -/
theorem pack_shiftRight_and {f : Nat → Nat} (hf : ∀ c, f c < 2 ^ 64) {r m : Nat} (hm : m < 2 ^ (64 - r)) (n : Nat) :
    pack f n >>> r &&& pack (fun _ => m) n = pack (fun c => f c >>> r &&& m) n := by
  have hm' : m < 2 ^ 64 := Nat.lt_of_lt_of_le hm (Nat.pow_le_pow_right (by omega) (by omega))
  refine Nat.eq_of_testBit_eq fun i => ?_
  rw [Nat.testBit_and, Nat.testBit_shiftRight, testBit_pack hf, testBit_pack fun _ => hm', testBit_pack fun c => Nat.and_lt_two_pow _ hm',
    Nat.testBit_and, Nat.testBit_shiftRight]
  by_cases h : i % 64 < 64 - r
  · rw [show (r + i) / 64 = i / 64 by omega, show (r + i) % 64 = r + i % 64 by omega]
    by_cases h2 : i / 64 < n <;> simp [h2]
  · rw [Nat.testBit_lt_two_pow (Nat.lt_of_lt_of_le hm (Nat.pow_le_pow_right (by omega) (by omega : 64 - r ≤ i % 64)))]
    simp

/-- A lane, read out of the number. -/
theorem pack_lane {f : Nat → Nat} (hf : ∀ c, f c < 2 ^ 64) {n i : Nat} (hi : i < n) : pack f n >>> (64 * i) % 2 ^ 64 = f i := by
  refine Nat.eq_of_testBit_eq fun j => ?_
  rw [Nat.testBit_mod_two_pow, Nat.testBit_shiftRight, testBit_pack hf]
  by_cases hj : j < 64
  · rw [show (64 * i + j) / 64 = i by omega, show (64 * i + j) % 64 = j by omega]; simp [hi, hj]
  · rw [Nat.testBit_lt_two_pow (Nat.lt_of_lt_of_le (hf i) (Nat.pow_le_pow_right (by omega) (by omega : 64 ≤ j)))]; simp [hj]

end Cert.Lanes
-- ==== Proof.Words.lean ====
/- Threefry-2x32 at the key (0, 42), on one 32-bit word and on all 1000 lanes of a row at once, and that lane c of the second is the first at
   the row's c-th counter. The rounds are written with a continuation, so that each word is computed once. -/
module

public import proofs.«01_k».proof.Proof.Lanes

@[expose] public section

namespace Cert.Words

open Cert.Lanes

/-! ## One word -/

/-- One round: add, rotate by `r`, combine. -/
def round (r : Nat) (k : BitVec 32 → BitVec 32 → BitVec 32) (a b : BitVec 32) : BitVec 32 :=
  k (a + b) ((a + b) ^^^ (b <<< r ||| b >>> (32 - r)))

/-- The key's words added after a group of rounds. -/
def inject (p q : Nat) (k : BitVec 32 → BitVec 32 → BitVec 32) (a b : BitVec 32) : BitVec 32 :=
  k (a + BitVec.ofNat 32 p) (b + BitVec.ofNat 32 q)

def even (k : BitVec 32 → BitVec 32 → BitVec 32) : BitVec 32 → BitVec 32 → BitVec 32 := round 13 (round 15 (round 26 (round 6 k)))
def odd (k : BitVec 32 → BitVec 32 → BitVec 32) : BitVec 32 → BitVec 32 → BitVec 32 := round 17 (round 29 (round 16 (round 24 k)))

/-- The twenty rounds, and the two words xored. The key's third word is 42 ^^^ 0x1BD11BDA = 466689008. -/
def cipher : BitVec 32 → BitVec 32 → BitVec 32 :=
  even (inject 42 466689009 (odd (inject 466689008 2 (even (inject 0 45 (odd (inject 42 466689012 (even (inject 466689008 5 (· ^^^ ·))))))))))

/-- The random word at the counter `lo` (its high word is zero). -/
def word (lo : BitVec 32) : BitVec 32 := cipher 0#32 (lo + 42#32)

/-- The word's upper 23 bits, the mantissa of the sample. -/
def mant (lo : BitVec 32) : Nat := (word lo).toNat >>> 9

/-- A mantissa has 23 bits. -/
theorem mant_lt (lo : BitVec 32) : mant lo < 2 ^ 23 := by
  have := (word lo).isLt
  rw [mant, Nat.shiftRight_eq_div_pow]; omega

/-! ## A row of 1000 lanes -/

/-- Constants with the same word in every lane, and the classes' numbers. -/
def ones : Nat := pack (fun _ => 1) 1000
def low32 : Nat := pack (fun _ => 4294967295) 1000
def low23 : Nat := pack (fun _ => 8388607) 1000
def ids : Nat := pack (fun c => c) 1000

/-- A rotation, a round and a key addition in every lane at once. -/
def laneRot (r b : Nat) : Nat :=
  (fun t => Nat.land (Nat.lor t (Nat.shiftRight t 32)) low32) (Nat.shiftLeft b r)

def laneRound (r : Nat) (k : Nat → Nat → Nat) (a b : Nat) : Nat :=
  (fun s => k s (Nat.xor s (laneRot r b))) (Nat.land (Nat.add a b) low32)

def laneInject (p q : Nat) (k : Nat → Nat → Nat) (a b : Nat) : Nat :=
  k (Nat.land (Nat.add a (Nat.mul p ones)) low32) (Nat.land (Nat.add b (Nat.mul q ones)) low32)

def laneEven (k : Nat → Nat → Nat) : Nat → Nat → Nat := laneRound 13 (laneRound 15 (laneRound 26 (laneRound 6 k)))
def laneOdd (k : Nat → Nat → Nat) : Nat → Nat → Nat := laneRound 17 (laneRound 29 (laneRound 16 (laneRound 24 k)))

def laneCipher : Nat → Nat → Nat :=
  laneEven (laneInject 42 466689009 (laneOdd (laneInject 466689008 2 (laneEven (laneInject 0 45
    (laneOdd (laneInject 42 466689012 (laneEven (laneInject 466689008 5 Nat.xor)))))))))

/-- The words of row `n`: lane c's counter is n * 1000 + c. -/
def laneWords (n : Nat) : Nat :=
  laneCipher 0 (Nat.land (Nat.add (Nat.mul (Nat.add (Nat.mul n 1000) 42) ones) ids) low32)

/-! ## Lane by lane -/

/-- `K` does to packed words what `k` does to each. -/
def Lanewise (K : Nat → Nat → Nat) (k : BitVec 32 → BitVec 32 → BitVec 32) : Prop :=
  ∀ a b : Nat → BitVec 32, K (pack (fun c => (a c).toNat) 1000) (pack (fun c => (b c).toNat) 1000) = pack (fun c => (k (a c) (b c)).toNat) 1000

theorem small (x : BitVec 32) : x.toNat < 2 ^ 64 := Nat.lt_of_lt_of_le x.isLt (by decide)

theorem and_low32 (f : Nat → Nat) (hf : ∀ c, f c < 2 ^ 64) :
    Nat.land (pack f 1000) low32 = pack (fun c => (BitVec.ofNat 32 (f c)).toNat) 1000 := by
  refine (pack_and hf (fun _ => by decide) 1000).trans (pack_congr fun c _ => ?_)
  rw [BitVec.toNat_ofNat]; exact Nat.and_two_pow_sub_one_eq_mod _ 32

theorem lanewise_xor : Lanewise Nat.xor (· ^^^ ·) := fun a b =>
  (pack_xor (fun c => small (a c)) (fun c => small (b c)) 1000).trans (pack_congr fun c _ => (BitVec.toNat_xor ..).symm)

/-- A rotation of every lane's word. -/
theorem laneRot_pack {r : Nat} (h0 : 0 < r) (h : r < 32) (b : Nat → BitVec 32) :
    laneRot r (pack (fun c => (b c).toNat) 1000) = pack (fun c => (b c <<< r ||| b c >>> (32 - r)).toNat) 1000 := by
  have ht : ∀ c, (b c).toNat <<< r < 2 ^ 64 := fun c => by
    rw [Nat.shiftLeft_eq]
    calc (b c).toNat * 2 ^ r < 2 ^ 32 * 2 ^ r := Nat.mul_lt_mul_of_pos_right (b c).isLt (Nat.two_pow_pos r)
      _ = 2 ^ (32 + r) := (Nat.pow_add ..).symm
      _ ≤ 2 ^ 64 := Nat.pow_le_pow_right (by decide) (by omega)
  show (Nat.shiftLeft (pack _ 1000) r ||| Nat.shiftLeft (pack _ 1000) r >>> 32) &&& low32 = _
  rw [show Nat.shiftLeft (pack (fun c => (b c).toNat) 1000) r = _ from pack_shiftLeft _ 1000 r, Nat.and_or_distrib_right,
    show low32 = pack (fun _ => 2 ^ 32 - 1) 1000 from rfl, pack_shiftRight_and ht (by decide) 1000, pack_and ht (fun _ => by decide) 1000]
  refine Nat.eq_of_testBit_eq fun i => ?_
  have small' : ∀ x : Nat, x &&& (2 ^ 32 - 1) < 2 ^ 64 := fun x => Nat.and_lt_two_pow _ (by decide)
  rw [Nat.testBit_or, testBit_pack (fun _ => small' _), testBit_pack (fun _ => small' _), testBit_pack (fun _ => small _),
    ← Bool.and_or_distrib_left]
  congr 1
  generalize b (i / 64) = x
  generalize i % 64 = j
  rw [Nat.testBit_and, Nat.testBit_and, Nat.testBit_two_pow_sub_one, Nat.testBit_shiftRight, Nat.testBit_shiftLeft, Nat.testBit_shiftLeft,
    BitVec.testBit_toNat, BitVec.testBit_toNat, BitVec.testBit_toNat, BitVec.getLsbD_or, BitVec.getLsbD_shiftLeft, BitVec.getLsbD_ushiftRight]
  by_cases hj : j < 32
  · rw [show 32 + j - r = 32 - r + j by omega]
    by_cases hr : j < r
    · simp [hj, hr, show r ≤ 32 + j by omega]
    · simp [hj, hr, show r ≤ 32 + j by omega, show r ≤ j by omega]
  · simp [hj, BitVec.getLsbD_of_ge x (32 - r + j) (by omega)]

/-- A round goes lane by lane. -/
theorem lanewise_round {K : Nat → Nat → Nat} {k : BitVec 32 → BitVec 32 → BitVec 32} (h : Lanewise K k) {r : Nat} (h0 : 0 < r) (h32 : r < 32) :
    Lanewise (laneRound r K) (round r k) := fun a b => by
  have hs : Nat.land (Nat.add (pack (fun c => (a c).toNat) 1000) (pack (fun c => (b c).toNat) 1000)) low32
      = pack (fun c => (a c + b c).toNat) 1000 := by
    rw [show Nat.add (pack (fun c => (a c).toNat) 1000) (pack (fun c => (b c).toNat) 1000) = _ from pack_add _ _ 1000, and_low32 _ fun c => by
      have := (a c).isLt; have := (b c).isLt; omega]
    exact pack_congr fun c _ => by rw [BitVec.toNat_ofNat, BitVec.toNat_add]
  show K _ (Nat.xor _ (laneRot r _)) = _
  rw [hs, laneRot_pack h0 h32, lanewise_xor (fun c => a c + b c) (fun c => b c <<< r ||| b c >>> (32 - r)), h (fun c => a c + b c)]
  rfl

/-- A key addition goes lane by lane. -/
theorem lanewise_inject {K : Nat → Nat → Nat} {k : BitVec 32 → BitVec 32 → BitVec 32} (h : Lanewise K k) {p q : Nat}
    (hp : p < 2 ^ 32) (hq : q < 2 ^ 32) : Lanewise (laneInject p q K) (inject p q k) := fun a b => by
  have hs : ∀ (x : Nat → BitVec 32) (s : Nat), s < 2 ^ 32 → Nat.land (Nat.add (pack (fun c => (x c).toNat) 1000) (Nat.mul s ones)) low32
      = pack (fun c => (x c + BitVec.ofNat 32 s).toNat) 1000 := fun x s hs => by
    rw [show Nat.mul s ones = _ from mul_pack s _ 1000,
      show Nat.add (pack (fun c => (x c).toNat) 1000) (pack (fun _ => s * 1) 1000) = _ from pack_add _ _ 1000, and_low32 _ fun c => by
      have := (x c).isLt; omega]
    exact pack_congr fun c _ => by rw [BitVec.toNat_ofNat, BitVec.toNat_add, BitVec.toNat_ofNat]; omega
  show K _ _ = _
  rw [hs a p hp, hs b q hq, h (fun c => a c + BitVec.ofNat 32 p)]
  rfl

/-- Four rounds of either kind go lane by lane. -/
theorem lanewise_even {K : Nat → Nat → Nat} {k : BitVec 32 → BitVec 32 → BitVec 32} (h : Lanewise K k) : Lanewise (laneEven K) (even k) :=
  lanewise_round (lanewise_round (lanewise_round (lanewise_round h (by decide) (by decide)) (by decide) (by decide)) (by decide) (by decide))
    (by decide) (by decide)

theorem lanewise_odd {K : Nat → Nat → Nat} {k : BitVec 32 → BitVec 32 → BitVec 32} (h : Lanewise K k) : Lanewise (laneOdd K) (odd k) :=
  lanewise_round (lanewise_round (lanewise_round (lanewise_round h (by decide) (by decide)) (by decide) (by decide)) (by decide) (by decide))
    (by decide) (by decide)

/-- The whole cipher goes lane by lane. -/
theorem lanewise_cipher : Lanewise laneCipher cipher :=
  lanewise_even (lanewise_inject (lanewise_odd (lanewise_inject (lanewise_even (lanewise_inject (lanewise_odd (lanewise_inject (lanewise_even
    (lanewise_inject lanewise_xor (by decide) (by decide))) (by decide) (by decide))) (by decide) (by decide))) (by decide) (by decide)))
    (by decide) (by decide))

/-- Lane c of a row's words is the word at the row's c-th counter. -/
theorem laneWords_eq {n : Nat} (hn : n < 16384) : laneWords n = pack (fun c => (word (BitVec.ofNat 32 (n * 1000 + c))).toNat) 1000 := by
  have h0 : (0 : Nat) = pack (fun _ => (0#32).toNat) 1000 := by
    have := mul_pack 0 (fun _ => 0) 1000
    simpa using this
  have hb : Nat.land (Nat.add (Nat.mul (Nat.add (Nat.mul n 1000) 42) ones) ids) low32
      = pack (fun c => (BitVec.ofNat 32 (n * 1000 + c) + 42#32).toNat) 1000 := by
    rw [show Nat.mul (Nat.add (Nat.mul n 1000) 42) ones = _ from mul_pack (n * 1000 + 42) _ 1000,
      show Nat.add (pack (fun _ => (n * 1000 + 42) * 1) 1000) ids = _ from pack_add _ (fun c => c) 1000]
    have e : pack (fun c => (n * 1000 + 42) * 1 + c) 1000 = pack (fun c => ((n * 1000 + 42) * 1 + c) % 2 ^ 32) 1000 :=
      pack_congr fun c hc => by omega
    rw [e, and_low32 _ fun c => Nat.lt_of_lt_of_le (Nat.mod_lt _ (by decide)) (by decide)]
    refine pack_congr fun c hc => ?_
    rw [BitVec.toNat_ofNat, BitVec.toNat_add, BitVec.toNat_ofNat, BitVec.toNat_ofNat]; omega
  rw [laneWords, hb]
  conv_lhs => rw [h0]
  exact lanewise_cipher (fun _ => 0#32) fun c => BitVec.ofNat 32 (n * 1000 + c) + 42#32

end Cert.Words
-- ==== Proof.Chain.lean ====
/- Reading a round off named words: a program that names each round's two words has computed the round. -/
module

public import proofs.«01_k».proof.Proof.Words

@[expose] public section

namespace Cert.Words

/-- A round whose two words are the named ones. -/
theorem round_eq (r : Nat) (k : BitVec 32 → BitVec 32 → BitVec 32) {a b : BitVec 32} (a' b' : BitVec 32) (ha : a' = a + b)
    (hb : b' = (b <<< r ||| b >>> (32 - r)) ^^^ a') : round r k a b = k a' b' := by
  rw [hb, ha, BitVec.xor_comm]; rfl

/-- A round and the key's words after it, the second word named with its key's word added. -/
theorem round_inject_eq (r p q : Nat) (k : BitVec 32 → BitVec 32 → BitVec 32) {a b : BitVec 32} (a' b' : BitVec 32) (ha : a' = a + b)
    (hb : b' = ((b <<< r ||| b >>> (32 - r)) ^^^ a') + BitVec.ofNat 32 q) :
    round r (inject p q k) a b = k (a' + BitVec.ofNat 32 p) b' := by
  rw [hb, ha, BitVec.xor_comm]; rfl

/-- The same, the second word named with the key's word and the group's number added apart. -/
theorem round_inject_eq' (r p q : Nat) (k : BitVec 32 → BitVec 32 → BitVec 32) {a b u v : BitVec 32} (a' b' : BitVec 32) (ha : a' = a + b)
    (hb : b' = (a' ^^^ (b <<< r ||| b >>> (32 - r))) + u + v) (huv : u + v = BitVec.ofNat 32 q) :
    round r (inject p q k) a b = k (a' + BitVec.ofNat 32 p) b' := by
  rw [hb, BitVec.add_assoc _ u v, huv, ha]; rfl

/-- A round whose words are named with the exclusive or the other way about. -/
theorem round_eq' (r : Nat) (k : BitVec 32 → BitVec 32 → BitVec 32) {a b : BitVec 32} (a' b' : BitVec 32) (ha : a' = a + b)
    (hb : b' = a' ^^^ (b <<< r ||| b >>> (32 - r))) : round r k a b = k a' b' := by
  rw [hb, ha]; rfl

/-- A key's word named inside a sum of three. -/
theorem add_key {a b u v : BitVec 32} (h : u = v) : a + u + b = a + v + b := by rw [h]

end Cert.Words
-- ==== Proof.RefWord.lean ====
/- The reference's random word at an index: the words it names, round by round, are those of `Cert.Words.word` at the counter n * 1000 + c. -/
module

public import proofs.«01_k».proof.Proof.RefRun
public import proofs.«01_k».proof.Proof.Chain
public import Idealize.ShloMosaic.Lib.Pointwise

@[expose] public section

set_option maxRecDepth 16384

noncomputable section
open Idealize.ShloMosaic Idealize.ShloMosaic.TcCoe Idealize.SL.Sem
open Cert.ReferenceIdeal Cert.ReferenceIdeal.Gen Cert.Words

namespace Cert.ReferenceIdeal.Value

variable (V : Valuation τ sig (Elt Ideal))

/-- A scalar spread over the samples. -/
abbrev spread (x : IVec S_ 32) : IVec S16384x1000 32 := broadcastInDim S16384x1000 ![] bcast_S_S16384x1000 x

/-- The key's three words. -/
theorem key0 (j : S16384x1000.Idx) : spread (res_main_v21 V) j = 0#32 := by
  idx_vars j
  pointwise [spread, res_main_v21, res_main_v19, res_main_c]
  rfl

theorem key1 (j : S16384x1000.Idx) : spread (res_main_v23 V) j = 42#32 := by
  idx_vars j
  pointwise [spread, res_main_v23, res_main_v19, res_main_c]
  rfl

theorem key2 (j : S16384x1000.Idx) : spread (res_main_call2_v1 V) j = 466689008#32 := by
  have h0 := key0 V j
  have h1 := key1 V j
  unfold spread at h0 h1 ⊢
  unfold res_main_call2_v1
  idx_vars j
  pointwise
  pointwise at h0 h1
  rw [h0, h1]
  rfl

/-- The counter. -/
theorem counter (n : Fin 16384) (c : Fin 1000) :
    trunci 32 (res_main_v30 V) natLt_32_64 (ix2 n c) = BitVec.ofNat 32 (n.val * 1000 + c.val) := by
  pointwise [res_main_v30]
  apply BitVec.eq_of_toNat_eq
  simp only [IntOp.addi, IntOp.muli, BitVec.toNat_setWidth, BitVec.toNat_add, BitVec.toNat_mul, BitVec.toNat_ofNat]
  omega

/-- The counter's upper word is zero. -/
theorem high (n : Fin 16384) (c : Fin 1000) :
    trunci 32 (Host.shrui (res_main_v30 V) (broadcastInDim S16384x1000 ![] bcast_S_S16384x1000 (constantI S_ 64 32#64))) natLt_32_64 (ix2 n c) = 0#32 := by
  pointwise [res_main_v30]
  have e : IntOp.shrui ArithUnit.host (IntOp.addi (IntOp.muli (1000#64) (BitVec.ofNat 64 n)) (IntOp.muli (1#64) (BitVec.ofNat 64 c))) 32#64
      = (1000#64 * BitVec.ofNat 64 n + 1#64 * BitVec.ofNat 64 c) >>> 32 := rfl
  rw [e]
  apply BitVec.eq_of_toNat_eq
  have hn := n.isLt
  have hc := c.isLt
  have e : (1000#64 * BitVec.ofNat 64 n + 1#64 * BitVec.ofNat 64 c).toNat = 1000 * n.val + c.val := by
    simp only [BitVec.toNat_add, BitVec.toNat_mul, BitVec.toNat_ofNat]
    omega
  rw [BitVec.toNat_setWidth, BitVec.toNat_ushiftRight, e, Nat.shiftRight_eq_div_pow, Nat.div_eq_of_lt (by omega)]
  rfl

/-- The bits the samples are made of, before the shift. -/
def bits : IVec S16384x1000 32 :=
  xori (addi (res_main_call2_v163 V) (spread (res_main_call2_v1 V)))
    (addi (addi (xori (res_main_call2_v163 V) (ori (Host.shli (res_main_call2_v162 V) (spread (constantI S_ 32 6#32))) (Host.shrui (res_main_call2_v162 V) (spread (constantI S_ 32 26#32)))))
      (spread (res_main_v21 V))) (spread (constantI S_ 32 5#32)))

/-- The twenty rounds at an index are the word of the counter. -/
theorem chain (j : S16384x1000.Idx) (lo : BitVec 32) (h5 : res_main_call2_v5 V j = lo + 42#32) (h6 : res_main_call2_v6 V j = res_main_call2_v5 V j) :
    bits V j = word lo := by
  symm
  rw [word, ← h5]
  simp only [cipher, even, odd]
  refine (round_eq' 13 _ (res_main_call2_v6 V j) (res_main_call2_v12 V j) (h6.trans (BitVec.zero_add _).symm) rfl).trans ?_
  refine (round_eq' 15 _ (res_main_call2_v13 V j) (res_main_call2_v19 V j) rfl rfl).trans ?_
  refine (round_eq' 26 _ (res_main_call2_v20 V j) (res_main_call2_v26 V j) rfl rfl).trans ?_
  refine (round_inject_eq' 6 _ _ _ (res_main_call2_v27 V j) (res_main_call2_v39 V j) rfl rfl (congrArg (fun z : BitVec 32 => z + 1#32) (key2 V j))).trans ?_
  refine (round_eq' 17 _ (res_main_call2_v40 V j) (res_main_call2_v46 V j) (add_key (key1 V j)) rfl).trans ?_
  refine (round_eq' 29 _ (res_main_call2_v47 V j) (res_main_call2_v53 V j) rfl rfl).trans ?_
  refine (round_eq' 16 _ (res_main_call2_v54 V j) (res_main_call2_v60 V j) rfl rfl).trans ?_
  refine (round_inject_eq' 24 _ _ _ (res_main_call2_v61 V j) (res_main_call2_v73 V j) rfl rfl (congrArg (fun z : BitVec 32 => z + 2#32) (key0 V j))).trans ?_
  refine (round_eq' 13 _ (res_main_call2_v74 V j) (res_main_call2_v80 V j) (add_key (key2 V j)) rfl).trans ?_
  refine (round_eq' 15 _ (res_main_call2_v81 V j) (res_main_call2_v87 V j) rfl rfl).trans ?_
  refine (round_eq' 26 _ (res_main_call2_v88 V j) (res_main_call2_v94 V j) rfl rfl).trans ?_
  refine (round_inject_eq' 6 _ _ _ (res_main_call2_v95 V j) (res_main_call2_v107 V j) rfl rfl (congrArg (fun z : BitVec 32 => z + 3#32) (key1 V j))).trans ?_
  refine (round_eq' 17 _ (res_main_call2_v108 V j) (res_main_call2_v114 V j) (add_key (key0 V j)) rfl).trans ?_
  refine (round_eq' 29 _ (res_main_call2_v115 V j) (res_main_call2_v121 V j) rfl rfl).trans ?_
  refine (round_eq' 16 _ (res_main_call2_v122 V j) (res_main_call2_v128 V j) rfl rfl).trans ?_
  refine (round_inject_eq' 24 _ _ _ (res_main_call2_v129 V j) (res_main_call2_v141 V j) rfl rfl (congrArg (fun z : BitVec 32 => z + 4#32) (key2 V j))).trans ?_
  refine (round_eq' 13 _ (res_main_call2_v142 V j) (res_main_call2_v148 V j) (add_key (key1 V j)) rfl).trans ?_
  refine (round_eq' 15 _ (res_main_call2_v149 V j) (res_main_call2_v155 V j) rfl rfl).trans ?_
  refine (round_eq' 26 _ (res_main_call2_v156 V j) (res_main_call2_v162 V j) rfl rfl).trans ?_
  refine (round_inject_eq' 6 _ _ _ (res_main_call2_v163 V j) _ rfl rfl
    (congrArg (fun z : BitVec 32 => z + 5#32) (key0 V j))).trans ?_
  exact congrArg (fun z : BitVec 32 => ((show BitVec 32 from res_main_call2_v163 V j) + z) ^^^ _) (key2 V j).symm

/-- The bits of row `n`, class `c`. -/
theorem bits_at (n : Fin 16384) (c : Fin 1000) : bits V (ix2 n c) = word (BitVec.ofNat 32 (n.val * 1000 + c.val)) := by
  refine chain V _ _ ((congrArg (fun z : BitVec 32 => z + _) (counter V n c)).trans (congrArg (fun z : BitVec 32 => _ + z) (key1 V _))) ?_
  have e : res_main_call2_v6 V (ix2 n c) = (trunci 32 (Host.shrui (res_main_v30 V) (broadcastInDim S16384x1000 ![] bcast_S_S16384x1000 (constantI S_ 64 32#64))) natLt_32_64 (ix2 n c)
      + spread (res_main_v21 V) (ix2 n c)) + (show BitVec 32 from res_main_call2_v5 V (ix2 n c)) := rfl
  rw [e, high, key0, BitVec.zero_add]
  exact BitVec.zero_add _

end Cert.ReferenceIdeal.Value
-- ==== Proof.Gumbel.lean ====
/- The two formulas of a sample in the reals: the noise of a mantissa's word, and the class the kernel picks from a row's two best. -/
module

public import Idealize.ShloMosaic.PureOps.Ideal

@[expose] public section

noncomputable section
open Idealize.ShloMosaic

namespace Cert.Gumbel

/-- The smallest positive normal number, 2^-126, and the floor under a probability. -/
def tiny : EReal := Ideal.ofBits .f32 8388608#32
def floor : EReal := Ideal.ofBits .f32 228737632#32

/-- The Gumbel noise of a sample whose mantissa's bits are `b`. -/
def noise (b : BitVec 32) : EReal :=
  0 - Ideal.log (0 - Ideal.log (max tiny (Ideal.ofBits .f32 (b ||| 1065353216#32) - 1 + tiny)))

/-- The logit of a probability. -/
def logit (p : EReal) : EReal := Ideal.log (max p floor)

/-- The class the kernel picks: the row's best class other than the clean one against the clean one, whose mantissa is `b`. -/
def pick (x : BitVec 32) (il p0 : EReal) (v1 i1 v2 i2 b : BitVec 32) : BitVec 32 :=
  if il = 1 then x
  else if noise b + logit (il + (1 - il) * p0) < noise (if x = i1 then v2 else v1) + logit ((1 - il) * p0) then if x = i1 then i2 else i1
  else if noise (if x = i1 then v2 else v1) + logit ((1 - il) * p0) < noise b + logit (il + (1 - il) * p0) then x
  else IntOp.minsi (if x = i1 then i2 else i1) x

end Cert.Gumbel
-- ==== Proof.Noise.lean ====
/- The noise and the logits are real numbers, and the noise grows strictly with the mantissa. -/
module

public import proofs.«01_k».proof.Proof.Gumbel
public import Mathlib.Analysis.SpecialFunctions.Log.Basic

@[expose] public section

noncomputable section
open Idealize.ShloMosaic

namespace Cert.Gumbel

/-- The uniform sample of mantissa `m`. -/
def unit (m : Nat) : ℝ := m * (2 : ℝ) ^ (-23 : Int) + (2 : ℝ) ^ (-126 : Int)

/-- The noise of mantissa `m`. -/
def gum (m : Nat) : ℝ := -Real.log (-Real.log (unit m))

/-- The smallest normal number as a real. -/
theorem tiny_eq : tiny = (((2 : ℝ) ^ (-126 : Int) : ℝ) : EReal) := by
  simp [tiny, Ideal.ofBits, Ideal.ieee, -EReal.coe_mul]
  norm_num

/-- The floor is a positive real. -/
theorem floor_pos : ∃ f : ℝ, 0 < f ∧ floor = (f : EReal) := by
  refine ⟨_, ?_, by simp [floor, Ideal.ofBits, Ideal.ieee, -EReal.coe_mul]; rfl⟩
  positivity

/-- The uniform is positive, -/
theorem unit_pos (m : Nat) : 0 < unit m := by unfold unit; positivity

/-- below 1, -/
theorem unit_lt_one {m : Nat} (h : m < 2 ^ 23) : unit m < 1 := by
  have h1 : (m : ℝ) ≤ 8388607 := by exact_mod_cast (by omega : m ≤ 8388607)
  unfold unit
  norm_num
  linarith

/-- and increasing in the mantissa. -/
theorem unit_mono {m m' : Nat} (h : m < m') : unit m < unit m' := by
  have h1 : (m : ℝ) < m' := by exact_mod_cast h
  unfold unit
  norm_num
  linarith

/-- A word whose upper nine bits are those of 1.0 is one and a fraction. -/
theorem mantissa_eq {m : Nat} (h : m < 2 ^ 23) :
    Ideal.ofBits .f32 (BitVec.ofNat 32 m ||| 1065353216#32) = ((1 + m * (2 : ℝ) ^ (-23 : Int) : ℝ) : EReal) := by
  have e : BitVec.ofNat 32 m ||| 1065353216#32 = BitVec.ofNat 32 (127 * 2 ^ 23 + m) := by
    apply BitVec.eq_of_toNat_eq
    rw [BitVec.toNat_or, BitVec.toNat_ofNat, BitVec.toNat_ofNat, BitVec.toNat_ofNat, Nat.or_comm, Nat.mod_eq_of_lt (by omega : m < 2 ^ 32),
      Nat.mod_eq_of_lt (by omega : 127 * 2 ^ 23 + m < 2 ^ 32)]
    rw [show 1065353216 % 2 ^ 32 = 2 ^ 23 * 127 from rfl, ← Nat.two_pow_add_eq_or_of_lt h 127]
    omega
  have s0 : ((BitVec.ofNat 32 (127 * 2 ^ 23 + m)).extractLsb' 31 1 == 1#1) = false := by
    apply beq_false_of_ne
    intro hh
    have := congrArg BitVec.toNat hh
    rw [BitVec.extractLsb'_toNat, BitVec.toNat_ofNat, Nat.shiftRight_eq_div_pow] at this
    simp only [BitVec.toNat_ofNat] at this
    omega
  have s1 : ((BitVec.ofNat 32 (127 * 2 ^ 23 + m)).extractLsb' 23 8).toNat = 127 := by
    rw [BitVec.extractLsb'_toNat, BitVec.toNat_ofNat, Nat.shiftRight_eq_div_pow]
    omega
  have s2 : ((BitVec.ofNat 32 (127 * 2 ^ 23 + m)).extractLsb' 0 23).toNat = m := by
    rw [BitVec.extractLsb'_toNat, BitVec.toNat_ofNat, Nat.shiftRight_eq_div_pow]
    omega
  rw [e]
  show Ideal.ieee 8 23 _ = _
  unfold Ideal.ieee
  simp only [s0, s1, s2]
  rw [if_neg (by decide), if_neg (by decide)]
  refine congrArg Real.toEReal ?_
  norm_num
  ring

/-- The ideal logarithm of a positive real is the real one. -/
theorem log_pos {r : ℝ} (h : 0 < r) : Ideal.log (r : EReal) = ((Real.log r : ℝ) : EReal) := by
  show (if r ≤ 0 then (⊥ : EReal) else (Real.log r : EReal)) = _
  rw [if_neg (not_le.mpr h)]

/-- The noise is a real number. -/
theorem noise_eq {m : Nat} (h : m < 2 ^ 23) : noise (BitVec.ofNat 32 m) = ((gum m : ℝ) : EReal) := by
  have hu := unit_pos m
  have hl : 0 < -Real.log (unit m) := neg_pos.mpr (Real.log_neg hu (unit_lt_one h))
  have e : max tiny (Ideal.ofBits .f32 (BitVec.ofNat 32 m ||| 1065353216#32) - 1 + tiny) = ((unit m : ℝ) : EReal) := by
    rw [mantissa_eq h, tiny_eq]
    have : ((1 + m * (2 : ℝ) ^ (-23 : Int) : ℝ) : EReal) - 1 + (((2 : ℝ) ^ (-126 : Int) : ℝ) : EReal) = ((unit m : ℝ) : EReal) := by
      rw [show (1 : EReal) = ((1 : ℝ) : EReal) from rfl, ← EReal.coe_sub, ← EReal.coe_add]
      congr 1
      unfold unit
      ring
    rw [this]
    apply max_eq_right
    rw [EReal.coe_le_coe_iff]
    unfold unit
    have : (0 : ℝ) ≤ m * (2 : ℝ) ^ (-23 : Int) := by positivity
    linarith
  unfold noise gum
  rw [e, log_pos hu, zero_sub, zero_sub, ← EReal.coe_neg, log_pos hl, ← EReal.coe_neg]

/-- The noise increases with the mantissa. -/
theorem gum_mono {m m' : Nat} (h : m < m') (h' : m' < 2 ^ 23) : gum m < gum m' := by
  have h1 := Real.log_lt_log (unit_pos m) (unit_mono h)
  have h2 : 0 < -Real.log (unit m') := neg_pos.mpr (Real.log_neg (unit_pos m') (unit_lt_one h'))
  have h3 := Real.log_lt_log h2 (neg_lt_neg h1)
  exact neg_lt_neg h3

/-- The logit of a real number is a real number. -/
theorem logit_real (p : ℝ) : ∃ q : ℝ, logit (p : EReal) = (q : EReal) := by
  obtain ⟨f, hf, e⟩ := floor_pos
  refine ⟨Real.log (max p f), ?_⟩
  have hm : max (p : EReal) (f : EReal) = ((max p f : ℝ) : EReal) := (EReal.coe_strictMono.monotone.map_max).symm
  unfold logit
  rw [e, hm, log_pos (lt_max_of_lt_right hf)]

end Cert.Gumbel
-- ==== Proof.Rows.lean ====
/- The check of one row of the table: that an entry names the first two classes in the order of the key 1024 * mantissa + (1023 - class), that
   is the largest mantissa first and of equal ones the smaller class first. It is a few operations on numbers of 1000 lanes. -/
module

public import proofs.«01_k».proof.Proof.Words

@[expose] public section

namespace Cert.Words

open Cert.Lanes

def reversed : Nat := pack (fun c => Nat.sub 1023 c) 1000
def guards : Nat := pack (fun _ => 1099511627776) 1000

/-- The order's key for class `c` of row `n`. -/
def key (n c : Nat) : Nat := mant (BitVec.ofNat 32 (n * 1000 + c)) * 1024 + (1023 - c)

/-- The keys of row `n`, one to a lane. -/
def laneKeys (n : Nat) : Nat :=
  Nat.add (Nat.shiftLeft (Nat.land (Nat.shiftRight (laneWords n) 9) low23) 10) reversed

/-- Row `n`'s greatest key is mantissa `v1` at class `i1`, and its second greatest `v2` at `i2`. -/
def rowOk (n v1 i1 v2 i2 : Nat) : Bool :=
  (fun ks k2 =>
    Nat.beq (Nat.land (Nat.sub (Nat.mul (Nat.add k2 1099511627776) ones) ks) guards)
        (Nat.xor guards (Nat.shiftLeft 1099511627776 (Nat.mul 64 i1))) &&
    (Nat.beq (Nat.mod (Nat.shiftRight ks (Nat.mul 64 i1)) 18446744073709551616) (Nat.add (Nat.mul v1 1024) (Nat.sub 1023 i1)) &&
    (Nat.beq (Nat.mod (Nat.shiftRight ks (Nat.mul 64 i2)) 18446744073709551616) k2 && (Nat.blt i1 1000 && Nat.blt i2 1000))))
  (laneKeys n) (Nat.add (Nat.mul v2 1024) (Nat.sub 1023 i2))

/-- A key has 34 bits, -/
theorem key_lt (n c : Nat) : key n c < 2 ^ 34 := by
  have := mant_lt (BitVec.ofNat 32 (n * 1000 + c))
  rw [key]; omega

/-- so it fits its lane. -/
theorem key_small (n c : Nat) : key n c < 2 ^ 64 := Nat.lt_of_lt_of_le (key_lt n c) (by decide)

/-- The packed keys are the keys of the row's classes. -/
theorem laneKeys_eq {n : Nat} (hn : n < 16384) : laneKeys n = pack (key n) 1000 := by
  have hw : ∀ c, (word (BitVec.ofNat 32 (n * 1000 + c))).toNat < 2 ^ 64 := fun c => small _
  rw [laneKeys, laneWords_eq hn,
    show Nat.land (Nat.shiftRight (pack (fun c => (word (BitVec.ofNat 32 (n * 1000 + c))).toNat) 1000) 9) low23 = _ from
      pack_shiftRight_and hw (r := 9) (m := 8388607) (by decide) 1000]
  rw [show Nat.shiftLeft (pack _ 1000) 10 = _ from pack_shiftLeft _ 1000 10, show Nat.add (pack _ 1000) reversed = _ from pack_add _ _ 1000]
  refine pack_congr fun c _ => ?_
  have hm := mant_lt (BitVec.ofNat 32 (n * 1000 + c))
  rw [key, Nat.shiftLeft_eq, show (word (BitVec.ofNat 32 (n * 1000 + c))).toNat >>> 9 = mant (BitVec.ofNat 32 (n * 1000 + c)) from rfl,
    show (8388607 : Nat) = 2 ^ 23 - 1 from rfl, Nat.and_two_pow_sub_one_eq_mod, Nat.mod_eq_of_lt hm]
  rfl

/-- The guard bit of a lane's difference tells which number is greater. -/
theorem guard_bit {k x : Nat} (hk : k < 2 ^ 40) (hx : x < 2 ^ 40) : (k + 1099511627776 - x).testBit 40 = decide (x ≤ k) := by
  rw [Nat.testBit_eq_decide_div_mod_eq]
  by_cases h : x ≤ k
  · have : (k + 1099511627776 - x) / 2 ^ 40 = 1 := by omega
    rw [this]; simp [h]
  · have : (k + 1099511627776 - x) / 2 ^ 40 = 0 := by omega
    rw [this]; simp [h]

/-- What the check says of the row. -/
structure Best (n v1 i1 v2 i2 : Nat) : Prop where
  lt1 : i1 < 1000
  lt2 : i2 < 1000
  key1 : key n i1 = v1 * 1024 + (1023 - i1)
  key2 : key n i2 = v2 * 1024 + (1023 - i2)
  ne : i2 ≠ i1
  above : ∀ c, c < 1000 → c ≠ i1 → key n c < key n i1
  second : ∀ c, c < 1000 → c ≠ i1 → key n c ≤ key n i2

/-- A row that passes the check has its best two classes in the table. -/
theorem best_of_rowOk {n v1 i1 v2 i2 : Nat} (hn : n < 16384) (h : rowOk n v1 i1 v2 i2 = true) : Best n v1 i1 v2 i2 := by
  have h' : (Nat.beq _ _ && (Nat.beq _ _ && (Nat.beq _ _ && (Nat.blt i1 1000 && Nat.blt i2 1000)))) = true := h
  simp only [Bool.and_eq_true, Nat.beq_eq] at h'
  obtain ⟨hg, h1, h2, l1, l2⟩ := h'
  have l1 : i1 < 1000 := Nat.le_of_ble_eq_true l1
  have l2 : i2 < 1000 := Nat.le_of_ble_eq_true l2
  rw [laneKeys_eq hn] at hg h1 h2
  have h1 : key n i1 = v1 * 1024 + (1023 - i1) := (pack_lane (key_small n) l1).symm.trans h1
  have h2 : key n i2 = v2 * 1024 + (1023 - i2) := (pack_lane (key_small n) l2).symm.trans h2
  have hk : ∀ c, key n c < 2 ^ 40 := fun c => Nat.lt_of_lt_of_le (key_lt n c) (by decide)
  have hbit : ∀ c, c < 1000 → decide (key n c ≤ key n i2) = !decide (c = i1) := fun c hc => by
    have e := congrArg (Nat.testBit · (64 * c + 40)) hg
    change Nat.testBit (Nat.land _ _) _ = Nat.testBit (Nat.xor _ _) _ at e
    rw [show Nat.add (Nat.mul v2 1024) (Nat.sub 1023 i2) = key n i2 from h2.symm] at e
    rw [show Nat.mul (Nat.add (key n i2) 1099511627776) ones = _ from mul_pack (key n i2 + 1099511627776) (fun _ => 1) 1000] at e
    rw [show Nat.sub (pack _ 1000) (pack (key n) 1000) = _ from pack_sub (f := fun _ => (key n i2 + 1099511627776) * 1) fun d _ => by
      have := hk d; omega] at e
    have s1 : ∀ d, (key n i2 + 1099511627776) * 1 - key n d < 2 ^ 64 := fun d => by have := hk i2; omega
    have s2 : ∀ d : Nat, (fun _ : Nat => 1099511627776) d < 2 ^ 64 := fun _ => (by decide : 1099511627776 < 2 ^ 64)
    rw [show Nat.land (pack (fun d => (key n i2 + 1099511627776) * 1 - key n d) 1000) guards = _ from pack_and s1 s2 1000,
      testBit_pack fun d => Nat.and_lt_two_pow _ (s2 d)] at e
    rw [show Nat.xor guards (Nat.shiftLeft 1099511627776 (Nat.mul 64 i1)) = guards ^^^ (1099511627776 <<< (64 * i1)) from rfl, Nat.testBit_xor,
      show guards = pack (fun _ => 1099511627776) 1000 from rfl, testBit_pack s2, Nat.testBit_shiftLeft] at e
    rw [show (64 * c + 40) / 64 = c by omega, show (64 * c + 40) % 64 = 40 by omega, Nat.testBit_and, Nat.mul_one,
      guard_bit (hk _) (hk c), show (1099511627776 : Nat).testBit 40 = true by decide] at e
    simp only [hc, decide_true, Bool.true_and, Bool.and_true] at e
    rw [e, show (1099511627776 : Nat) = 2 ^ 40 from rfl, Nat.testBit_two_pow]
    by_cases hci : c = i1
    · subst hci
      have h4 : 64 * c + 40 - 64 * c = 40 := by omega
      rw [h4]; simp
    · by_cases hge : 64 * c + 40 ≥ 64 * i1
      · have h4 : ¬ 40 = 64 * c + 40 - 64 * i1 := by omega
        simp [hci, h4]
      · simp [hge, hci]
  have hle : ∀ c, c < 1000 → c ≠ i1 → key n c ≤ key n i2 := fun c hc hne => by simpa [hne] using hbit c hc
  have hgt : ¬ key n i1 ≤ key n i2 := by simpa using hbit i1 l1
  exact ⟨l1, l2, h1, h2, fun e => hgt (by rw [e]), fun c hc hne => Nat.lt_of_le_of_lt (hle c hc hne) (Nat.lt_of_not_le hgt), hle⟩

/-- The check, of the rows `lo, …, lo + n - 1` of a table whose four parts follow each other. -/
def rowsOk (tab : Nat → Nat) (lo n : Nat) : Bool :=
  Nat.rec true (fun j acc => (fun r => rowOk r (tab r) (tab (Nat.add 16384 r)) (tab (Nat.add 32768 r)) (tab (Nat.add 49152 r))) (Nat.add lo j) && acc) n

/-- A range that passes the check passes it in each of its rows. -/
theorem rowOk_of_rowsOk {tab : Nat → Nat} {lo n : Nat} (h : rowsOk tab lo n = true) (r : Nat) (h1 : lo ≤ r) (h2 : r < lo + n) :
    rowOk r (tab r) (tab (16384 + r)) (tab (32768 + r)) (tab (49152 + r)) = true := by
  induction n with
  | zero => omega
  | succ n ih =>
    have h : (rowOk (lo + n) _ _ _ _ && rowsOk tab lo n) = true := h
    rw [Bool.and_eq_true] at h
    by_cases e : r = lo + n
    · rw [e]; exact h.1
    · exact ih h.2 (by omega)

end Cert.Words
-- ==== Proof.Best.lean ====
/- The class the kernel picks has the first greatest score of its row. -/
module

public import proofs.«01_k».proof.Proof.Noise
public import proofs.«01_k».proof.Proof.Rows

@[expose] public section

noncomputable section
open Idealize.ShloMosaic Cert.Words

namespace Cert.Gumbel

/-- The score of class `c` in row `n`, the clean class being `X`: its noise and its logit. -/
def score (n X : Nat) (il p0 : EReal) (c : Nat) : EReal :=
  noise (BitVec.ofNat 32 (mant (BitVec.ofNat 32 (n * 1000 + c)))) + if c = X then logit (il + (1 - il) * p0) else logit ((1 - il) * p0)

/-- `W` has the first greatest of the scores `s`. -/
structure First (s : Nat → EReal) (W : Nat) : Prop where
  lt : W < 1000
  real : ⊥ < s W
  above : ∀ c < 1000, c ≠ W → s c < s W ∨ (s c = s W ∧ W < c)

/-- The signed minimum of two classes is the lower one. -/
theorem minsi_ofNat {a b : Nat} (ha : a < 1000) (hb : b < 1000) : IntOp.minsi (BitVec.ofNat 32 a) (BitVec.ofNat 32 b) = BitVec.ofNat 32 (min a b) := by
  unfold IntOp.minsi
  have e : (BitVec.ofNat 32 a).slt (BitVec.ofNat 32 b) = decide (a < b) := by
    have e' : ∀ k : Nat, k < 1000 → (BitVec.ofNat 32 k).toInt = k := by
      intro k hk
      have t : (BitVec.ofNat 32 k).toNat = k := by rw [BitVec.toNat_ofNat, Nat.mod_eq_of_lt (by omega)]
      rw [BitVec.toInt_eq_toNat_of_lt (by rw [t]; omega), t]
    rw [BitVec.slt_eq_decide, e' a ha, e' b hb]
    simp
  rw [e]
  by_cases h : a < b
  · simp [h, Nat.min_eq_left h.le]
  · simp [h, Nat.min_eq_right (not_lt.mp h)]

/-- A lower key is a lower mantissa, or the same one at a class that is not lower. -/
theorem key_le {n c r : Nat} (hc : c < 1000) (hr : r < 1000) (h : key n c ≤ key n r) :
    mant (BitVec.ofNat 32 (n * 1000 + c)) < mant (BitVec.ofNat 32 (n * 1000 + r))
      ∨ (mant (BitVec.ofNat 32 (n * 1000 + c)) = mant (BitVec.ofNat 32 (n * 1000 + r)) ∧ r ≤ c) := by
  unfold key at h
  omega

/-- The best class other than the clean one against the clean one. -/
theorem duel {n X R : Nat} (hX : X < 1000) (hR : R < 1000) (hne : R ≠ X) (hbest : ∀ c < 1000, c ≠ X → key n c ≤ key n R) (il p0 : ℝ) :
    let sr := score n X il p0 R
    let sx := score n X il p0 X
    ∃ W, (if sx < sr then BitVec.ofNat 32 R else if sr < sx then BitVec.ofNat 32 X else IntOp.minsi (BitVec.ofNat 32 R) (BitVec.ofNat 32 X)) = BitVec.ofNat 32 W
      ∧ First (score n X il p0) W := by
  obtain ⟨a, ha⟩ : ∃ a : ℝ, logit ((1 - (il : EReal)) * p0) = a := by
    have := logit_real ((1 - il) * p0)
    rwa [EReal.coe_mul, EReal.coe_sub] at this
  obtain ⟨b, hb⟩ : ∃ b : ℝ, logit ((il : EReal) + (1 - il) * p0) = b := by
    have := logit_real (il + (1 - il) * p0)
    rwa [EReal.coe_add, EReal.coe_mul, EReal.coe_sub] at this
  have hsx : score n X il p0 X = ((gum (mant (BitVec.ofNat 32 (n * 1000 + X))) + b : ℝ) : EReal) := by
    rw [score, if_pos rfl, hb, noise_eq (mant_lt _), EReal.coe_add]
  have hs : ∀ c, c ≠ X → score n X il p0 c = ((gum (mant (BitVec.ofNat 32 (n * 1000 + c))) + a : ℝ) : EReal) := by
    intro c hc
    rw [score, if_neg hc, ha, noise_eq (mant_lt _), EReal.coe_add]
  have hreal : ∀ c, ⊥ < score n X il p0 c := by
    intro c
    by_cases hc : c = X
    · rw [hc, hsx]; exact EReal.bot_lt_coe _
    · rw [hs c hc]; exact EReal.bot_lt_coe _
  have hle : ∀ c < 1000, c ≠ X → score n X il p0 c < score n X il p0 R ∨ (score n X il p0 c = score n X il p0 R ∧ R ≤ c) := by
    intro c hc hcX
    rw [hs c hcX, hs R hne]
    rcases key_le hc hR (hbest c hc hcX) with h | ⟨h, h'⟩
    · left
      rw [EReal.coe_lt_coe_iff]
      have := gum_mono h (mant_lt _)
      linarith
    · right
      exact ⟨by rw [h], h'⟩
  intro sr sx
  rcases lt_trichotomy sx sr with h | h | h
  · refine ⟨R, by rw [if_pos h], hR, hreal R, fun c hc hcR => ?_⟩
    by_cases hcX : c = X
    · left; rw [hcX]; exact h
    · rcases hle c hc hcX with h1 | ⟨h1, h2⟩
      · exact .inl h1
      · exact .inr ⟨h1, by omega⟩
  · refine ⟨min R X, by rw [if_neg (by rw [h]; exact lt_irrefl _), if_neg (by rw [h]; exact lt_irrefl _), minsi_ofNat hR hX], by omega, hreal _, fun c hc hcW => ?_⟩
    have hW : score n X il p0 (min R X) = sr := by
      rcases Nat.le_total R X with h' | h'
      · rw [Nat.min_eq_left h']
      · rw [Nat.min_eq_right h']; exact h
    rw [hW]
    by_cases hcX : c = X
    · right; rw [hcX]; exact ⟨h, by omega⟩
    · rcases hle c hc hcX with h1 | ⟨h1, h2⟩
      · exact .inl h1
      · exact .inr ⟨h1, by omega⟩
  · refine ⟨X, by rw [if_neg (lt_asymm h), if_pos h], hX, hreal X, fun c hc hcX => ?_⟩
    rcases hle c hc hcX with h1 | ⟨h1, _⟩
    · exact .inl (lt_trans h1 h)
    · left; rw [h1]; exact h

/-- A word is the word of its value. -/
theorem eq_ofNat {b : BitVec 32} {k : Nat} (h : b.toNat = k) : b = BitVec.ofNat 32 k := by
  apply BitVec.eq_of_toNat_eq
  rw [BitVec.toNat_ofNat, ← h, Nat.mod_eq_of_lt b.isLt]

/-- Different classes are different words. -/
theorem ofNat_ne {a b : Nat} (ha : a < 1000) (hb : b < 1000) (h : a ≠ b) : BitVec.ofNat 32 a ≠ BitVec.ofNat 32 b := by
  intro e
  have := congrArg BitVec.toNat e
  rw [BitVec.toNat_ofNat, BitVec.toNat_ofNat, Nat.mod_eq_of_lt (by omega), Nat.mod_eq_of_lt (by omega)] at this
  exact h this

/-- A key holds its class's mantissa. -/
theorem mant_of_key {n c v : Nat} (hc : c < 1000) (h : key n c = v * 1024 + (1023 - c)) : v = mant (BitVec.ofNat 32 (n * 1000 + c)) := by
  unfold key at h
  omega

/-- What the kernel picks from a row's two best classes is the class with the first greatest score. -/
theorem pick_first {n X v1 i1 v2 i2 : Nat} (hX : X < 1000) (h : Best n v1 i1 v2 i2) (il p0 : ℝ) (h1 : (il : EReal) ≠ 1) :
    ∃ W, pick (BitVec.ofNat 32 X) il p0 (BitVec.ofNat 32 v1) (BitVec.ofNat 32 i1) (BitVec.ofNat 32 v2) (BitVec.ofNat 32 i2)
        (BitVec.ofNat 32 (mant (BitVec.ofNat 32 (n * 1000) + BitVec.ofNat 32 X))) = BitVec.ofNat 32 W
      ∧ First (score n X il p0) W := by
  have hsum : BitVec.ofNat 32 (n * 1000) + BitVec.ofNat 32 X = BitVec.ofNat 32 (n * 1000 + X) := (BitVec.ofNat_add ..).symm
  unfold pick
  rw [if_neg h1, hsum]
  by_cases hx : X = i1
  · have d := duel hX h.lt2 (hx ▸ h.ne) (fun c hc hcX => h.second c hc (hx ▸ hcX)) il p0
    rw [if_pos (congrArg _ hx), if_pos (congrArg _ hx), mant_of_key h.lt2 h.key2]
    simpa only [score, if_pos, if_neg (hx ▸ h.ne : i2 ≠ X)] using d
  · have d := duel hX h.lt1 (Ne.symm hx) (fun c hc hcX => by
      by_cases e : c = i1
      · rw [e]
      · exact (h.above c hc e).le) il p0
    rw [if_neg (ofNat_ne hX h.lt1 hx), if_neg (ofNat_ne hX h.lt1 hx), mant_of_key h.lt1 h.key1]
    simpa only [score, if_pos, if_neg (Ne.symm hx)] using d

end Cert.Gumbel
-- ==== Proof.RefValue.lean ====
/- The reference's score at an index. -/
module

public import proofs.«01_k».proof.Proof.RefWord
public import proofs.«01_k».proof.Proof.Best

@[expose] public section

set_option maxRecDepth 16384

noncomputable section
open Idealize.ShloMosaic Idealize.ShloMosaic.TcCoe Idealize.SL.Sem
open Cert.ReferenceIdeal Cert.ReferenceIdeal.Gen Cert.Words

namespace Cert.ReferenceIdeal.Value

variable (V : Valuation τ sig (Elt Ideal))

/-- The noise of every sample. -/
def noises (w : IVec S16384x1000 32) : FVec Ideal S16384x1000 .f32 :=
  Host.negf (Host.log (Host.negf (Host.log (maximumf (broadcastInDim S16384x1000 ![] bcast_S_S16384x1000 (constant S_ .f32 0x00800000#32))
    (addf (mulf (subf (bitcastToFloat (F := Ideal) .f32 (ori (Host.shrui w (spread (constantI S_ 32 9#32))) (spread (constantI S_ 32 1065353216#32))))
      (broadcastInDim S16384x1000 ![] bcast_S_S16384x1000 (constant S_ .f32 0x3F800000#32)))
      (broadcastInDim S16384x1000 ![] bcast_S_S16384x1000 (constant S_ .f32 0x3F800000#32)))
      (broadcastInDim S16384x1000 ![] bcast_S_S16384x1000 (constant S_ .f32 0x00800000#32)))))))

/-- The probability of every class in every row. -/
def probs (x : IVec S16384 32) (il : FVec Ideal S16384x1 .f32) (prior : FVec Ideal S1000 .f32) : FVec Ideal S16384x1000 .f32 :=
  addf (mulf (broadcastInDim S16384x1000 ![0, 1] bcast_S16384x1_S16384x1000_0_1 il)
      (uitofp .f32 (cmpi .eq (broadcastInDim S16384x1000 ![0, 1] bcast_S16384x1_S16384x1000_0_1 (broadcastInDim S16384x1 ![0] bcast_S16384_S16384x1_0 x))
        (broadcastInDim S16384x1000 ![0, 1] bcast_S1x1000_S16384x1000_0_1 (iotaInDim S1x1000 32 1)))))
    (mulf (broadcastInDim S16384x1000 ![0, 1] bcast_S16384x1_S16384x1000_0_1 (subf (broadcastInDim S16384x1 ![] bcast_S_S16384x1 (constant S_ .f32 0x3F800000#32)) il))
      (broadcastInDim S16384x1000 ![0, 1] bcast_S1x1000_S16384x1000_0_1 (broadcastInDim S1x1000 ![1] bcast_S1000_S1x1000_1 prior)))

/-- The reference's scores: noise plus logit. -/
theorem scores_eq : res_main_v54 V = addf (noises (bits V))
    (Host.log (maximumf (broadcastInDim S16384x1000 ![] bcast_S_S16384x1000 (id (constant S_ .f32 0x0DA24260#32)))
      (probs (V (Proc.devRef .tc main_arg0)) (res_main_v1 V) (V (Proc.devRef .tc main_arg3))))) := rfl

/-- A word shifted by nine bits is its mantissa. -/
theorem word_shift (lo : BitVec 32) : word lo >>> 9 = BitVec.ofNat 32 (mant lo) := by
  apply BitVec.eq_of_toNat_eq
  rw [BitVec.toNat_ushiftRight, BitVec.toNat_ofNat, ← mant]
  have := mant_lt lo
  omega

/-- The noise at an index. -/
theorem noises_at (w : IVec S16384x1000 32) (n : Fin 16384) (c : Fin 1000) : noises w (ix2 n c) = Gumbel.noise (w (ix2 n c) >>> 9) := by
  pointwise [noises, spread]
  have e : IntOp.shrui ArithUnit.host (w (ix2 n c)) 9#32 = w (ix2 n c) >>> 9 := rfl
  rw [e, Gumbel.noise, zero_sub, zero_sub]
  rfl

/-- The probability at an index. -/
theorem probs_at (x : IVec S16384 32) (il : FVec Ideal S16384x1 .f32) (prior : FVec Ideal S1000 .f32) (n : Fin 16384) (c : Fin 1000) :
    probs x il prior (ix2 n c) = (show EReal from il (ix2 n 0)) * (if x (ix1 n) = BitVec.ofNat 32 c.val then 1 else 0) + (1 - (show EReal from il (ix2 n 0))) * (show EReal from prior (ix1 c)) := by
  pointwise [probs]
  have e : (FloatOps.uitofp .f32 (IntOp.cmpi .eq (x (ix1 n)) (BitVec.ofNat 32 c.val)) : Ideal .f32) = (if x (ix1 n) = BitVec.ofNat 32 c.val then (1 : EReal) else 0) := by
    by_cases h : x (ix1 n) = BitVec.ofNat 32 c.val
    · rw [if_pos h, h, IntOp.cmpi, beq_self_eq_true]
      show (((BitVec.ofBool true).toNat : ℝ) : EReal) = 1
      simp
    · rw [if_neg h]
      have e : IntOp.cmpi .eq (x (ix1 n)) (BitVec.ofNat 32 c.val) = 0#1 := by
        rw [IntOp.cmpi]
        have : (x (ix1 n) == BitVec.ofNat 32 c.val) = false := by simpa using h
        simp [this]
      rw [e]
      show (((0#1).toNat : ℝ) : EReal) = 0
      simp
  rw [e]

/-- The level's column at a row. -/
theorem level_at (n : Fin 16384) : res_main_v1 V (ix2 n 0) = V (Proc.devRef .tc main_arg1) (ix1 n) := by
  pointwise [res_main_v1]

/-- A score at an index, of any words and probabilities. -/
theorem score_shape (w : IVec S16384x1000 32) (p : FVec Ideal S16384x1000 .f32) (n : Fin 16384) (c : Fin 1000) :
    addf (noises w) (Host.log (maximumf (broadcastInDim S16384x1000 ![] bcast_S_S16384x1000 (id (constant S_ .f32 0x0DA24260#32))) p)) (ix2 n c)
      = Gumbel.noise (w (ix2 n c) >>> 9) + Gumbel.logit (p (ix2 n c)) := by
  have hn := noises_at w n c
  pointwise [hn]
  rw [Gumbel.logit, max_comm]
  rfl

/-- The reference's score in row `n` of class `c`, when the prior is the same number at every class and the row's clean class is `X`. -/
theorem score_at (n : Fin 16384) (X : Nat) (hX : X < 1000) (p0 : EReal) (c : Fin 1000)
    (hx : V (Proc.devRef .tc main_arg0) (ix1 n) = BitVec.ofNat 32 X) (hp : V (Proc.devRef .tc main_arg3) (ix1 c) = p0) :
    res_main_v54 V (ix2 n c) = Gumbel.score n X (V (Proc.devRef .tc main_arg1) (ix1 n)) p0 c := by
  rw [scores_eq, score_shape, bits_at, word_shift, probs_at, level_at, hx, hp, Gumbel.score]
  by_cases h : c.val = X
  · rw [if_pos h, if_pos (by rw [h]), mul_one]
  · rw [if_neg h, if_neg (Ne.symm (Gumbel.ofNat_ne c.isLt hX h)), mul_zero, zero_add]

end Cert.ReferenceIdeal.Value
-- ==== Proof.Argmax.lean ====
/- The reference's argument of the maximum: over a row with a first greatest score, it is that score's class. -/
module

public import proofs.«01_k».proof.Proof.RefValue
public import Idealize.ShloMosaic.PureOps.Ideal.Laws
public import Idealize.ShloMosaic.Lib.StableHlo.Predicate

@[expose] public section

set_option maxRecDepth 16384

noncomputable section
open Idealize.ShloMosaic Idealize.ShloMosaic.TcCoe Idealize.SL.Sem
open Cert.ReferenceIdeal Cert.ReferenceIdeal.Gen Cert.Words

namespace Cert.ReferenceIdeal.Value

/-- One pair before another: a greater score, or an equal one at a lower class. -/
def Beats (p q : EReal × BitVec 32) : Prop := q.1 < p.1 ∨ (q.1 = p.1 ∧ p.2.slt q.2 = true)

/-- The reducer keeps the pair before the other, on either side. -/
theorem keep_left (p q : EReal × BitVec 32) (h : Beats p q) : reducer_argmax_f32_i32 (F := Ideal) p q = p := by
  obtain ⟨a, i⟩ := p
  obtain ⟨b, k⟩ := q
  rcases h with h | ⟨h, h'⟩
  · simp only at h
    simp [reducer_argmax_f32_i32, Ideal.cmpf_def, Ideal.cmp, IntOp.ori, IntOp.andi, IntOp.cmpi, Scalar.select, h, h.ne']
  · simp only at h h'
    subst h
    simp [reducer_argmax_f32_i32, Ideal.cmpf_def, Ideal.cmp, IntOp.ori, IntOp.andi, IntOp.cmpi, Scalar.select, h']

/-- The reducer keeps the earlier pair when it comes second, and of two equal pairs either. -/
theorem keep_right (p q : EReal × BitVec 32) (h : Beats p q ∨ q = p) : reducer_argmax_f32_i32 (F := Ideal) q p = p := by
  obtain ⟨a, i⟩ := p
  obtain ⟨b, k⟩ := q
  rcases h with (h | ⟨h, h'⟩) | h
  · simp only at h
    simp [reducer_argmax_f32_i32, Ideal.cmpf_def, Ideal.cmp, IntOp.ori, IntOp.andi, IntOp.cmpi, Scalar.select, h, h.le, h.ne, not_lt.mpr h.le]
  · simp only at h h'
    subst h
    have e : k.slt i = false := by
      rw [BitVec.slt_eq_decide, decide_eq_true_eq] at h'
      rw [BitVec.slt_eq_decide, decide_eq_false_iff_not]
      omega
    simp [reducer_argmax_f32_i32, Ideal.cmpf_def, Ideal.cmp, IntOp.ori, IntOp.andi, IntOp.cmpi, Scalar.select, e]
  · obtain ⟨rfl, rfl⟩ := Prod.mk.inj h
    simp [reducer_argmax_f32_i32, Ideal.cmpf_def, Ideal.cmp, IntOp.ori, IntOp.andi, IntOp.cmpi, Scalar.select]

/-- The reducer returns one of its arguments. -/
theorem keep_one (p q : EReal × BitVec 32) : reducer_argmax_f32_i32 (F := Ideal) p q = p ∨ reducer_argmax_f32_i32 (F := Ideal) p q = q := by
  rcases lt_trichotomy q.1 p.1 with h | h | h
  · exact .inl (keep_left p q (.inl h))
  · rcases Int.lt_trichotomy p.2.toInt q.2.toInt with h' | h' | h'
    · exact .inl (keep_left p q (.inr ⟨h, by rw [BitVec.slt_eq_decide]; exact decide_eq_true h'⟩))
    · exact .inr (keep_right q p (.inr (Prod.ext h.symm (BitVec.eq_of_toInt_eq h'))))
    · exact .inr (keep_right q p (.inl (.inr ⟨h.symm, by rw [BitVec.slt_eq_decide]; exact decide_eq_true h'⟩)))
  · exact .inr (keep_right q p (.inl (.inl h)))

/-- Folding from the pair before all others stays there. -/
theorem fold_stays (p : EReal × BitVec 32) (L : List (EReal × BitVec 32)) (h : ∀ q ∈ L, Beats p q ∨ q = p) :
    L.foldl (reducer_argmax_f32_i32 (F := Ideal)) p = p := by
  induction L with
  | nil => rfl
  | cons q L ih =>
    rw [List.foldl_cons]
    have e : reducer_argmax_f32_i32 (F := Ideal) p q = p := by
      rcases h q List.mem_cons_self with e | e
      · exact keep_left p q e
      · rw [e]; exact keep_right p p (.inr rfl)
    rw [e]
    exact ih fun r hr => h r (List.mem_cons_of_mem _ hr)

/-- Folding over a list that holds the pair before all others, from a pair it is before, ends there. -/
theorem fold_first (p a : EReal × BitVec 32) (L : List (EReal × BitVec 32)) (hp : p ∈ L) (ha : Beats p a ∨ a = p)
    (h : ∀ q ∈ L, Beats p q ∨ q = p) : L.foldl (reducer_argmax_f32_i32 (F := Ideal)) a = p := by
  induction L generalizing a with
  | nil => exact absurd hp List.not_mem_nil
  | cons q L ih =>
    rw [List.foldl_cons]
    have hL : ∀ r ∈ L, Beats p r ∨ r = p := fun r hr => h r (List.mem_cons_of_mem _ hr)
    rcases h q List.mem_cons_self with hq | rfl
    · have hpL : p ∈ L := by
        rcases List.mem_cons.1 hp with e | e
        · subst e
          rcases hq with e | ⟨_, e⟩
          · exact absurd e (lt_irrefl _)
          · rw [BitVec.slt_eq_decide, decide_eq_true_eq] at e
            exact absurd e (lt_irrefl _)
        · exact e
      refine ih _ hpL ?_ hL
      rcases keep_one a q with e | e
      · rw [e]; exact ha
      · rw [e]; exact .inl hq
    · rw [keep_right q a ha]
      exact fold_stays q L hL

/-- The class the reference takes in row `n`, when the row's scores have a first greatest. -/
theorem argmax_at (x : FVec Ideal S16384x1000 .f32) (n : Fin 16384) (s : Nat → EReal) (W : Nat) (hs : ∀ c : Fin 1000, x (ix2 n c) = s c)
    (h : Gumbel.First s W) :
    (Host.argReduce reducer_argmax_f32_i32 x (iotaInDim S16384x1000 32 1) (constant (F := Ideal) S_ .f32 0xFF800000#32) (constantI S_ 32 0#32)
      reducesTo_S16384x1000_S16384_d1 h_S_ (ix1 n)).2 = BitVec.ofNat 32 W := by
  have hd : ∀ i : S16384x1000.Idx, reducesTo_S16384x1000_S16384_d1.drop i = ix1 n ↔ i 0 = n := by
    intro i
    have hv : (reducesTo_S16384x1000_S16384_d1.drop i 0 : Nat) = i 0 := Shape.ReducesTo.drop_apply_val _ i 0
    constructor
    · intro e
      rw [e] at hv
      exact Fin.ext hv.symm
    · intro e
      funext b
      have hb : b = 0 := Subsingleton.elim _ _
      subst hb
      exact Fin.ext (by rw [hv, e]; rfl)
  have hi : ∀ i : S16384x1000.Idx, i 0 = n → i = ix2 n (i 1) := by
    intro i e
    funext b
    match b with
    | ⟨0, _⟩ => exact e
    | ⟨1, _⟩ => rfl
  have slt : ∀ a b : Nat, a < 1000 → b < 1000 → a < b → (BitVec.ofNat 32 a).slt (BitVec.ofNat 32 b) = true := by
    intro a b ha hb hab
    exact (StableHlo.Predicate.ofBool_eq_one_iff _).1 ((StableHlo.Predicate.slt_ofNat_iff a b (by omega) (by omega)).2 hab)
  rw [Ideal.argReduce_eq_reduce2, Host.reduce2_eq_foldl_fiber, fold_first (s W, BitVec.ofNat 32 W)]
  · rw [Host.argReduceFiber, List.mem_map]
    refine ⟨S16384x1000.rowMajor (ix2 n ⟨W, h.lt⟩), ?_, ?_⟩
    · rw [List.mem_filter]
      refine ⟨List.mem_finRange _, ?_⟩
      rw [Equiv.symm_apply_apply, decide_eq_true_eq, hd]
      rfl
    · rw [Equiv.symm_apply_apply, hs]
      rfl
  · left; left
    show (⊥ : EReal) < _
    exact h.real
  · intro q hq
    rw [Host.argReduceFiber, List.mem_map] at hq
    obtain ⟨k, hk, rfl⟩ := hq
    rw [List.mem_filter, decide_eq_true_eq, hd] at hk
    have hk := hi _ hk.2
    generalize S16384x1000.rowMajor.symm k = i at hk
    have hc : (i 1 : Fin 1000).val < 1000 := (i 1 : Fin 1000).isLt
    have e : iotaInDim S16384x1000 32 1 i = BitVec.ofNat 32 (i 1 : Fin 1000).val := rfl
    have e' : x i = s (i 1 : Fin 1000).val := (congrArg x hk).trans (hs _)
    rw [e, e']
    generalize (i 1 : Fin 1000).val = c at hc
    by_cases hcW : c = W
    · right; rw [hcW]
    · left
      rcases h.above c hc hcW with h' | ⟨h', h''⟩
      · exact .inl h'
      · exact .inr ⟨h', slt _ _ h.lt hc h''⟩

end Cert.ReferenceIdeal.Value
-- ==== Proof.Drawn.lean ====
/- What the precondition says of the arguments, element by element. -/
module

public import proofs.«01_k».proof.Pre_drawn
public import Idealize.ShloMosaic.Lib.ReduceAll
public import Idealize.ShloMosaic.Lib.StableHlo.Predicate
public import Idealize.ShloMosaic.Lib.Pointwise
public import Idealize.ShloMosaic.PureOps.Ideal.Laws

@[expose] public section

noncomputable section
open Idealize.ShloMosaic

namespace Cert.Pre_drawn

/-- The precondition's shape relations hold. -/
instance facts : Facts where
  bcast_S_S16384 := by decide
  reducesTo_S16384_S_d0 := by decide
  h_S_ := by decide
  bcast_S_S1000 := by decide
  reducesTo_S1000_S_d0 := by decide
  slices_S1000_S1_0 := by decide
  shapeCasts_S1_S_ := by decide

/-- A conjunction of two bits that is 1 has both bits 1. -/
theorem and_one {a b : BitVec 1} (h : IntOp.andi a b = 1#1) : a = 1#1 ∧ b = 1#1 := by
  revert a b
  decide

/-- A number whose absolute value is below infinity is a real number. -/
theorem real_of_abs {e : EReal} (h : max e (-e) < ⊤) : ∃ r : ℝ, e = r := by
  induction e with
  | bot => simp at h
  | coe r => exact ⟨r, rfl⟩
  | top => simp at h

/-- A number that passes the comparison of its absolute value with infinity is real. -/
theorem real_of_cmp {e : EReal} (h : Ideal.cmp .olt (max e (-e)) (Ideal.ofBits .f32 0x7F800000#32) = 1#1) : ∃ r : ℝ, e = r := by
  apply real_of_abs
  have e : Ideal.ofBits .f32 0x7F800000#32 = ⊤ := rfl
  rw [e] at h
  simpa [Ideal.cmp, StableHlo.Predicate.ofBool_eq_one_iff] using h

/-- A signed word from 0 to below 1000 is a class. -/
theorem class_of (x : BitVec 32) (h0 : IntOp.cmpi .sge x 0#32 = 1#1) (h1 : IntOp.cmpi .slt x 1000#32 = 1#1) : ∃ X < 1000, x = BitVec.ofNat 32 X := by
  simp only [IntOp.cmpi, StableHlo.Predicate.ofBool_eq_one_iff] at h0 h1
  refine ⟨x.toNat, ?_, by simp⟩
  have h0 : (0#32).toInt ≤ x.toInt := by simpa [BitVec.sle_eq_decide] using h0
  have h1 : x.toInt < (1000#32).toInt := by simpa [BitVec.slt_eq_decide] using h1
  have e0 : (0#32).toInt = 0 := rfl
  have e1 : (1000#32).toInt = 1000 := rfl
  rw [e0] at h0
  rw [e1] at h1
  rw [BitVec.toInt_eq_toNat_cond] at h0 h1
  split at h0 <;> omega

/-- The arguments as the precondition has them. -/
structure Drawn (x : IVec S16384 32) (il : FVec Ideal S16384 .f32) (prior : FVec Ideal S1000 .f32) : Prop where
  clean : ∀ n : Fin 16384, ∃ X < 1000, x (ix1 n) = BitVec.ofNat 32 X
  level : ∀ n : Fin 16384, ∃ r : ℝ, il (ix1 n) = ((r : ℝ) : EReal)
  prob : ∃ r : ℝ, ∀ c : Fin 1000, prior (ix1 c) = ((r : ℝ) : EReal)

/-- The precondition, read element by element. -/
theorem drawn_of_fn (x : IVec S16384 32) (il : FVec Ideal S16384 .f32) (a : IVec S_ 32) (prior : FVec Ideal S1000 .f32)
    (h : fn (F := Ideal) x il a prior = fun _ => 1#1) : Drawn x il prior := by
  have : Subsingleton S_.Idx := ⟨fun i j => funext fun b => b.elim0⟩
  have h := congrFun h ix0
  obtain ⟨h, h4⟩ := and_one h
  obtain ⟨h, h3⟩ := and_one h
  obtain ⟨h1, h2⟩ := and_one h
  have h1 := Host.reduce_andi_all _ _ _ _ _ h1
  have h2 := Host.reduce_andi_all _ _ _ _ _ h2
  have h3 := Host.reduce_andi_all _ _ _ _ _ h3
  have h4 := Host.reduce_andi_all _ _ _ _ _ h4
  refine ⟨fun n => ?_, fun n => ?_, ?_⟩
  · obtain ⟨ha, hb⟩ := and_one (h1 (ix1 n))
    exact class_of (x (ix1 n)) ha hb
  · exact real_of_cmp (h2 (ix1 n))
  · obtain ⟨r, hr⟩ := real_of_cmp (h3 (ix1 (0 : Fin 1000)))
    refine ⟨r, fun c => ?_⟩
    rw [← hr]
    have e : (broadcastInDim S1000 ![] Facts.bcast_S_S1000 (shapeCast S_ (extractStridedSlice S1 ![0] prior Facts.slices_S1000_S1_0) Facts.shapeCasts_S1_S_)) (ix1 c) = prior (ix1 (0 : Fin 1000)) := by
      pointwise
    have h := h4 (ix1 c)
    have h : Ideal.cmp .oeq (prior (ix1 c)) _ = 1#1 := h
    rw [e] at h
    simpa [Ideal.cmp, StableHlo.Predicate.ofBool_eq_one_iff] using h

end Cert.Pre_drawn
-- ==== Proof.KernelWord.lean ====
/- The kernel's random word at an index: the words it names, round by round, are those of `Cert.Words.word` at the counter n * 1000 + x. -/
module

public import proofs.«01_k».proof.Proof.Gen.KernelIdeal.Skeleton
public import proofs.«01_k».proof.Proof.Chain
public import Idealize.ShloMosaic.Lib.Pointwise

@[expose] public section

set_option maxRecDepth 16384

noncomputable section
open Idealize.ShloMosaic Idealize.ShloMosaic.TcCoe Idealize.SL.Sem
open Cert.KernelIdeal Cert.KernelIdeal.Gen Cert.Words

namespace Cert.KernelIdeal.Value

/-- The counter's word the kernel starts from. -/
theorem start (x : IVec S128x128 32) (r l : Fin 128) :
    k0_pay9 (F := Ideal) x (ix2 r l) = (BitVec.ofNat 32 ((r.val * 128 + l.val) * 1000) + x (ix2 r l)) + 42#32 := by
  have e : k0_pay9 (F := Ideal) x (ix2 r l)
      = (BitVec.ofNat 32 r.val * 128#32 + BitVec.ofNat 32 l.val) * 1000#32 + 42#32 + x (ix2 r l) := by
    pointwise [k0_pay9, k0_pay2]
    rfl
  rw [e]
  have : (BitVec.ofNat 32 r.val * 128#32 + BitVec.ofNat 32 l.val) * 1000#32 = BitVec.ofNat 32 ((r.val * 128 + l.val) * 1000) := by
    apply BitVec.eq_of_toNat_eq
    simp [BitVec.toNat_add, BitVec.toNat_mul]
  rw [this]
  ac_rfl

/-- The last words before the output are those of the cipher at that counter. -/
theorem chain (x : IVec S128x128 32) (j : S128x128.Idx) (lo : BitVec 32) (h : k0_pay9 (F := Ideal) x j = lo + 42#32) :
    let v30 := k0_pay11 (F := Ideal) x
    let v32 := k0_pay12 (F := Ideal) x
    let v34 := k0_pay13 (F := Ideal) x
    let v76 := k0_pay25 v30 v32 v34
    let v78 := k0_pay26 v30 v32 v34
    let v80 := k0_pay27 v30 v32 v34
    let v125 := k0_pay38 v76 v78 v80
    let v126 := k0_pay39 v76 v78 v80
    k0_pay57 (k0_pay50 v125 v126) (k0_pay51 v125 v126) j = BitVec.ofNat 32 (mant lo) ||| 1065353216#32 := by
  intro v30 v32 v34 v76 v78 v80 v125 v126
  have e : word lo = (k0_pay51 v125 v126 j + 466689008#32)
      ^^^ (((k0_pay50 v125 v126 j <<< 6 ||| k0_pay50 v125 v126 j >>> 26) ^^^ k0_pay51 v125 v126 j) + 5#32) := by
    rw [word, ← h]
    simp only [cipher, even, odd]
    refine (round_eq 13 _ (k0_pay9 (F := Ideal) x j) (k0_pay10 (F := Ideal) x j) (BitVec.zero_add _).symm rfl).trans ?_
    refine (round_eq 15 _ (v30 j) (k0_pay14 v30 v32 v34 j) rfl rfl).trans ?_
    refine (round_eq 26 _ (k0_pay15 v30 v32 v34 j) (k0_pay16 v30 v32 v34 j) rfl rfl).trans ?_
    refine (round_inject_eq 6 _ _ _ (k0_pay17 v30 v32 v34 j) (k0_pay18 v30 v32 v34 j) rfl rfl).trans ?_
    refine (round_eq 17 _ (k0_pay19 v30 v32 v34 j) (k0_pay20 v30 v32 v34 j) rfl rfl).trans ?_
    refine (round_eq 29 _ (k0_pay21 v30 v32 v34 j) (k0_pay22 v30 v32 v34 j) rfl rfl).trans ?_
    refine (round_eq 16 _ (k0_pay23 v30 v32 v34 j) (k0_pay24 v30 v32 v34 j) rfl rfl).trans ?_
    refine (round_inject_eq 24 _ _ _ (v76 j) (k0_pay28 v76 v78 v80 j) rfl rfl).trans ?_
    refine (round_eq 13 _ (k0_pay29 v76 v78 v80 j) (k0_pay30 v76 v78 v80 j) rfl rfl).trans ?_
    refine (round_eq 15 _ (k0_pay31 v76 v78 v80 j) (k0_pay32 v76 v78 v80 j) rfl rfl).trans ?_
    refine (round_eq 26 _ (k0_pay33 v76 v78 v80 j) (k0_pay34 v76 v78 v80 j) rfl rfl).trans ?_
    refine (round_inject_eq 6 _ _ _ (k0_pay35 v76 v78 v80 j) (k0_pay36 v76 v78 v80 j) rfl rfl).trans ?_
    refine (round_eq 17 _ (k0_pay37 v76 v78 v80 j) (v125 j) rfl rfl).trans ?_
    refine (round_eq 29 _ (v126 j) (k0_pay40 v125 v126 j) rfl rfl).trans ?_
    refine (round_eq 16 _ (k0_pay41 v125 v126 j) (k0_pay42 v125 v126 j) rfl rfl).trans ?_
    refine (round_inject_eq 24 _ _ _ (k0_pay43 v125 v126 j) (k0_pay44 v125 v126 j) rfl rfl).trans ?_
    refine (round_eq 13 _ (k0_pay45 v125 v126 j) (k0_pay46 v125 v126 j) rfl rfl).trans ?_
    refine (round_eq 15 _ (k0_pay47 v125 v126 j) (k0_pay48 v125 v126 j) rfl rfl).trans ?_
    refine (round_eq 26 _ (k0_pay49 v125 v126 j) (k0_pay50 v125 v126 j) rfl rfl).trans ?_
    refine (round_inject_eq 6 _ _ _ (k0_pay51 v125 v126 j) _ rfl rfl).trans ?_
    rfl
  have f : k0_pay57 (k0_pay50 v125 v126) (k0_pay51 v125 v126) j = word lo >>> 9 ||| 1065353216#32 := by
    rw [e]; rfl
  rw [f]
  congr 1
  apply BitVec.eq_of_toNat_eq
  rw [BitVec.toNat_ushiftRight, BitVec.toNat_ofNat, ← mant]
  have := mant_lt lo
  omega

end Cert.KernelIdeal.Value
-- ==== Proof.KernelValue.lean ====
/- What the kernel writes, element by element. -/
module

public import proofs.«01_k».proof.Proof.KernelWord
public import proofs.«01_k».proof.Proof.Gumbel
public import proofs.«01_k».proof.Proof.Gen.KernelIdeal.Frame
public import Idealize.ShloMosaic.Lib.Pipeline.ValueKit
public import Idealize.ShloMosaic.Lib.Claim

@[expose] public section

set_option maxRecDepth 16384

noncomputable section
open Idealize.ShloMosaic Idealize.ShloMosaic.TcCoe Idealize.SL.Sem
open Cert.KernelIdeal Cert.KernelIdeal.Gen Cert.Words

namespace Cert.KernelIdeal.Value

/-- The body's payload over its loaded values, at an index, is the pick there. -/
theorem pick_at (v1 : IVec S128x128 32) (v3 : FVec Ideal S128x128 .f32) (v5 : Ideal .f32) (v7 v9 v11 v13 v217 : IVec S128x128 32) (r l : Fin 128)
    (b : BitVec 32) (hb : v217 (ix2 r l) = b ||| 1065353216#32) :
    k0_pay1 (F := Ideal) v1 v3 (k0_pay53 v1 v9 v13) (k0_pay55 v3 v5) (k0_pay56 v1 v3 v5 v7 v9 v11) v217 (ix2 r l)
      = Gumbel.pick (v1 (ix2 r l)) (v3 (ix2 r l)) v5 (v7 (ix2 r l)) (v9 (ix2 r l)) (v11 (ix2 r l)) (v13 (ix2 r l)) b := by
  pointwise [k0_pay1, k0_pay52, k0_pay53, k0_pay54, k0_pay55, k0_pay56, hb]
  have hs : ∀ x i y z : BitVec 32, Scalar.select (IntOp.cmpi .eq x i) y z = if x = i then y else z := by
    intro x i y z
    by_cases h : x = i
    · simp [Scalar.select, IntOp.cmpi, h]
    · have e : (x == i) = false := by simpa using h
      simp [Scalar.select, IntOp.cmpi, h, e]
  simp only [hs]
  rfl

variable (m : (ℓ : Loc nD τ sig) → Buf (Elt Ideal) ℓ) (ρ : Dev nD → PrngReg)

/-- The kernel's result in row `n`. -/
def row (x : IVec S16384 32) (il : FVec Ideal S16384 .f32) (prior : FVec Ideal S1000 .f32) (n : Fin 16384) : BitVec 32 :=
  Gumbel.pick (x (ix1 n)) (il (ix1 n)) (prior (ix1 0)) (lit0t n) (lit0t (16384 + n)) (lit0t (32768 + n)) (lit0t (49152 + n))
    (BitVec.ofNat 32 (mant (BitVec.ofNat 32 (n * 1000) + x (ix1 n))))

/-- The kernel's result as the tile of 128 × 128 rows it writes. -/
def tile (x : IVec S16384 32) (il : FVec Ideal S16384 .f32) (prior : FVec Ideal S1000 .f32) : IVec S128x128 32 := fun j =>
  row x il prior ⟨(j 0).val * 128 + (j 1).val, by have h0 : (j 0).val < 128 := (j 0).isLt; have h1 : (j 1).val < 128 := (j 1).isLt; omega⟩

/-- The body's stored tile, at an index, over the blocks it loads. -/
theorem out_at (x0 : IVec S128x128 32) (x1 : FVec Ideal S128x128 .f32) (x2 : FVec Ideal S1x1 .f32) (x3 : IVec S4x128x128 32) (r l : Fin 128) :
    out0_4 (F := Ideal) x0 x1 x2 x3 (ix2 r l)
      = Gumbel.pick (x0 (ix2 r l)) (x1 (ix2 r l)) (x2 (ix2 0 0)) (x3 (ix3 0 r l)) (x3 (ix3 1 r l)) (x3 (ix3 2 r l)) (x3 (ix3 3 r l))
          (BitVec.ofNat 32 (mant (BitVec.ofNat 32 ((r.val * 128 + l.val) * 1000) + x0 (ix2 r l)))) := by
  frame_out
  refine (pick_at _ _ _ _ _ _ _ _ _ _ _ (chain _ _ _ (start _ _ _))).trans ?_
  pointwise [k0_pay58, k0_pay59, k0_pay60, k0_pay2, k0_pay3, k0_pay4, k0_pay5, k0_pay6, k0_pay7, k0_pay8]

/-- Every window stands at its array's origin. -/
theorem idx : ∀ t : Fin cfg0.N, win0_0.index t = ![0, 0] ∧ win0_1.index t = ![0, 0] ∧ win0_2.index t = ![0, 0] ∧ win0_3.index t = ![0, 0, 0] :=
  (by decide +kernel : ∀ t : Fin grid0.N, _)

/-- The tile of clean classes as the call finds it. -/
theorem entry0 (c : Dev nD) : V m c main_v0 = shapeCast S128x128 (m ((c : Thread nD τ).loc main_arg0)) shapeCasts_S16384_S128x128 := by
  entry_read
  simp only [List.flatten_cons, List.flatten_nil, List.append_nil, hostOps0]
  after_results_simp
  try rfl

/-- The tile of information levels as the call finds it. -/
theorem entry1 (c : Dev nD) : V m c main_v1 = shapeCast S128x128 (m ((c : Thread nD τ).loc main_arg1)) shapeCasts_S16384_S128x128 := by
  entry_read
  simp only [List.flatten_cons, List.flatten_nil, List.append_nil, hostOps0]
  after_results_simp
  try rfl

/-- The prior's first number as the call finds it. -/
theorem entry3 (c : Dev nD) : V m c main_v3 = shapeCast S1x1 (extractStridedSlice S1 ![0] (m ((c : Thread nD τ).loc main_arg3)) slices_S1000_S1_0) shapeCasts_S1_S1x1 := by
  entry_read
  simp only [List.flatten_cons, List.flatten_nil, List.append_nil, hostOps0]
  after_results_simp
  try rfl

/-- The table as the call finds it. -/
theorem entryC (c : Dev nD) : V m c main_c = fun i => lit0 (S4x128x128.rowMajor i) := by
  entry_read
  simp only [List.flatten_cons, List.flatten_nil, List.append_nil, hostOps0]
  after_results_simp
  try rfl

/-- The one block of each input is the whole input: the classes, -/
theorem block0 (c : Dev nD) : iblk m c 0 t0_0 = V m c main_v0 := by
  blk_ext! [iblk, idx t0_0]

/-- the levels, -/
theorem block1 (c : Dev nD) : iblk m c 1 t0_0 = V m c main_v1 := by
  blk_ext! [iblk, idx t0_0]

/-- the prior, -/
theorem block2 (c : Dev nD) : iblk m c 2 t0_0 = V m c main_v3 := by
  blk_ext! [iblk, idx t0_0]

/-- and the table. -/
theorem block3 (c : Dev nD) : iblk m c 3 t0_0 = V m c main_c := by
  blk_ext! [iblk, idx t0_0]

/-- The table's word at part `t`, row `r`, lane `l`. -/
theorem tab_at (t : Fin 4) (r l : Fin 128) : lit0 (S4x128x128.rowMajor (ix3 t r l)) = lit0t (t.val * 16384 + (r.val * 128 + l.val)) := by
  refine congrArg lit0t (Eq.trans (Shape.rowMajor_val_three _) ?_)
  show (t.val * 128 + r.val) * 128 + l.val = _
  omega

/-- The body's pick over the host's arrays, at a place of the tile. -/
theorem tile_at (x : IVec S16384 32) (il : FVec Ideal S16384 .f32) (prior : FVec Ideal S1000 .f32) (r l : Fin 128) :
    Gumbel.pick (shapeCast S128x128 x shapeCasts_S16384_S128x128 (ix2 r l)) (shapeCast S128x128 il shapeCasts_S16384_S128x128 (ix2 r l))
        (shapeCast S1x1 (extractStridedSlice S1 ![0] prior slices_S1000_S1_0) shapeCasts_S1_S1x1 (ix2 0 0))
        (lit0 (S4x128x128.rowMajor (ix3 0 r l))) (lit0 (S4x128x128.rowMajor (ix3 1 r l)))
        (lit0 (S4x128x128.rowMajor (ix3 2 r l))) (lit0 (S4x128x128.rowMajor (ix3 3 r l)))
        (BitVec.ofNat 32 (mant (BitVec.ofNat 32 ((r.val * 128 + l.val) * 1000) + shapeCast S128x128 x shapeCasts_S16384_S128x128 (ix2 r l))))
      = tile x il prior (ix2 r l) := by
  rw [tab_at 0 r l, tab_at 1 r l, tab_at 2 r l, tab_at 3 r l]
  pointwise [tile, row]

/-- The output array after the call is the tile. -/
theorem final (c : Dev nD) : (dats m 0 c).arrAt 4 (cfgs 0).N
    = tile (m ((c : Thread nD τ).loc main_arg0)) (m ((c : Thread nD τ).loc main_arg1)) (m ((c : Thread nD τ).loc main_arg3)) := by
  refine (dats m 0 c).arrAt_eq_of_after_last 4 t0_0 (by decide +kernel) _ fun j => ?_
  blk_simp
  rw [after0_4, block0, block1, block2, block3, entry0, entry1, entry3, entryC]
  idx_vars j
  refine (out_at _ _ _ _ _ _).trans ?_
  exact tile_at _ _ _ _ _

/-- The kernel runs, its result is the tile in row order, and its arguments end unchanged. -/
theorem run : θ_run defs (onTc (τ := τ) (main (F := Ideal))) ⟨m, fun _ => 0, ρ⟩ (fun r => ∀ c : Dev nD,
    r.2.mem ((c.tc : Thread nD τ).loc main_v5) = shapeCast S16384 (tile (m ((c : Thread nD τ).loc main_arg0)) (m ((c : Thread nD τ).loc main_arg1)) (m ((c : Thread nD τ).loc main_arg3))) shapeCasts_S128x128_S16384
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from run_main m ρ
  · rw [← final m c]
    unfold Pipeline.afterTail₀ hostOps1
    simp only [List.flatten_cons, List.flatten_nil, List.append_nil]
    after_results_simp
    exact congrArg (fun A => shapeCast S16384 A shapeCasts_S128x128_S16384)
      (Pipeline.withArrays_arr (cfgs 0).spec (by decide) c (V0 m c) (fun w => (dats m 0 c).arrAt w (cfgs 0).N) 4)
  · exact W_main_arg0 m (dats m) c
  · exact W_main_arg1 m (dats m) c
  · exact W_main_arg2 m (dats m) c
  · exact W_main_arg3 m (dats m) c

/-- The tile laid out as the rows again. -/
theorem rows_at (x : IVec S16384 32) (il : FVec Ideal S16384 .f32) (prior : FVec Ideal S1000 .f32) (n : Fin 16384) :
    shapeCast S16384 (tile x il prior) shapeCasts_S128x128_S16384 (ix1 n) = row x il prior n := by
  pointwise [tile]
  congr 2
  exact Nat.div_add_mod' n.val 128

end Cert.KernelIdeal.Value
-- ==== Proof.Tab.lean ====
/- The kernel's constant table, read at an index, as a number. -/
module

public import proofs.«01_k».proof.Proof.Rows
public import proofs.«01_k».proof.KernelIdeal

@[expose] public section

namespace Cert.Words

/-- Entry `i` of the table, in row-major order. -/
noncomputable def tab (i : Nat) : Nat := (Cert.KernelIdeal.lit0t i).toNat

end Cert.Words
-- ==== Proof.Rows0.lean ====
/- The table's check at rows 0 to 4095, a thousand at a time: evaluated by the kernel of Lean. -/
module

public import proofs.«01_k».proof.Proof.Tab

@[expose] public section

set_option Elab.async false

namespace Cert.Words

theorem rows_0 : rowsOk tab 0 1024 = true := by decide +kernel
theorem rows_1 : rowsOk tab 1024 1024 = true := by decide +kernel
theorem rows_2 : rowsOk tab 2048 1024 = true := by decide +kernel
theorem rows_3 : rowsOk tab 3072 1024 = true := by decide +kernel

end Cert.Words
-- ==== Proof.Rows1.lean ====
/- The table's check at rows 4096 to 8191, a thousand at a time: evaluated by the kernel of Lean. -/
module

public import proofs.«01_k».proof.Proof.Tab

@[expose] public section

set_option Elab.async false

namespace Cert.Words

theorem rows_4 : rowsOk tab 4096 1024 = true := by decide +kernel
theorem rows_5 : rowsOk tab 5120 1024 = true := by decide +kernel
theorem rows_6 : rowsOk tab 6144 1024 = true := by decide +kernel
theorem rows_7 : rowsOk tab 7168 1024 = true := by decide +kernel

end Cert.Words
-- ==== Proof.Rows2.lean ====
/- The table's check at rows 8192 to 12287, a thousand at a time: evaluated by the kernel of Lean. -/
module

public import proofs.«01_k».proof.Proof.Tab

@[expose] public section

set_option Elab.async false

namespace Cert.Words

theorem rows_8 : rowsOk tab 8192 1024 = true := by decide +kernel
theorem rows_9 : rowsOk tab 9216 1024 = true := by decide +kernel
theorem rows_10 : rowsOk tab 10240 1024 = true := by decide +kernel
theorem rows_11 : rowsOk tab 11264 1024 = true := by decide +kernel

end Cert.Words
-- ==== Proof.Rows3.lean ====
/- The table's check at rows 12288 to 16383, a thousand at a time: evaluated by the kernel of Lean. -/
module

public import proofs.«01_k».proof.Proof.Tab

@[expose] public section

set_option Elab.async false

namespace Cert.Words

theorem rows_12 : rowsOk tab 12288 1024 = true := by decide +kernel
theorem rows_13 : rowsOk tab 13312 1024 = true := by decide +kernel
theorem rows_14 : rowsOk tab 14336 1024 = true := by decide +kernel
theorem rows_15 : rowsOk tab 15360 1024 = true := by decide +kernel

end Cert.Words
-- ==== Proof.Table.lean ====
/- The table's rows, all sixteen parts together: in every row its four words are the best two classes and their mantissas. -/
module

public import proofs.«01_k».proof.Proof.Rows0
public import proofs.«01_k».proof.Proof.Rows1
public import proofs.«01_k».proof.Proof.Rows2
public import proofs.«01_k».proof.Proof.Rows3

@[expose] public section

namespace Cert.Words

/-- The table's four words of any row are the row's best two classes and their mantissas. -/
theorem best_row (n : Nat) (hn : n < 16384) : Best n (tab n) (tab (16384 + n)) (tab (32768 + n)) (tab (49152 + n)) := by
  apply best_of_rowOk hn
  obtain ⟨k, hk, h0, h1⟩ : ∃ k, k < 16 ∧ k * 1024 ≤ n ∧ n < k * 1024 + 1024 := ⟨n / 1024, by omega, by omega, by omega⟩
  have h : ∀ k < 16, rowsOk tab (k * 1024) 1024 = true := by
    intro k hk
    match k with
    | 0 => exact rows_0
    | 1 => exact rows_1
    | 2 => exact rows_2
    | 3 => exact rows_3
    | 4 => exact rows_4
    | 5 => exact rows_5
    | 6 => exact rows_6
    | 7 => exact rows_7
    | 8 => exact rows_8
    | 9 => exact rows_9
    | 10 => exact rows_10
    | 11 => exact rows_11
    | 12 => exact rows_12
    | 13 => exact rows_13
    | 14 => exact rows_14
    | 15 => exact rows_15
    | k + 16 => omega
  exact rowOk_of_rowsOk (h k hk) n h0 h1

end Cert.Words
-- ==== Proof.Equal.lean ====
/- The kernel's row and the reference's row are the same class. -/
module

public import proofs.«01_k».proof.Proof.Argmax
public import proofs.«01_k».proof.Proof.Drawn
public import proofs.«01_k».proof.Proof.KernelValue
public import proofs.«01_k».proof.Proof.Table

@[expose] public section

set_option maxRecDepth 16384

noncomputable section
open Idealize.ShloMosaic Idealize.ShloMosaic.TcCoe Idealize.SL.Sem
open Cert.Words

namespace Cert.Proof

/-- The kernel's result in a row whose information level is 1 is the clean class. -/
theorem row_one (x : IVec Cert.KernelIdeal.S16384 32) (il : FVec Ideal Cert.KernelIdeal.S16384 .f32) (prior : FVec Ideal Cert.KernelIdeal.S1000 .f32) (n : Fin 16384)
    (h : (show EReal from il (ix1 n)) = 1) : Cert.KernelIdeal.Value.row x il prior n = x (ix1 n) := by
  unfold Cert.KernelIdeal.Value.row Gumbel.pick
  exact if_pos h

/-- Elsewhere it is the class with the row's first greatest score. -/
theorem row_first (x : IVec Cert.KernelIdeal.S16384 32) (il : FVec Ideal Cert.KernelIdeal.S16384 .f32) (prior : FVec Ideal Cert.KernelIdeal.S1000 .f32) (n : Fin 16384)
    {X : Nat} (hX : X < 1000) {l p0 : ℝ} (hx : x (ix1 n) = BitVec.ofNat 32 X) (hl : il (ix1 n) = ((l : ℝ) : EReal)) (hp : prior (ix1 (0 : Fin 1000)) = ((p0 : ℝ) : EReal))
    (h1 : (l : EReal) ≠ 1) :
    ∃ W, Cert.KernelIdeal.Value.row x il prior n = BitVec.ofNat 32 W ∧ Gumbel.First (Gumbel.score n X l p0) W := by
  obtain ⟨W, hW, hF⟩ := Gumbel.pick_first hX (best_row n.val n.isLt) l p0 h1
  refine ⟨W, ?_, hF⟩
  rw [← hW]
  unfold Cert.KernelIdeal.Value.row
  rw [hx, hl, hp]
  have t : ∀ i, Cert.KernelIdeal.lit0t i = BitVec.ofNat 32 (tab i) := fun i => Gumbel.eq_ofNat rfl
  rw [t, t, t, t]

/-- The two results are equal, row by row. -/
theorem rows_eq (V : Valuation Cert.ReferenceIdeal.τ Cert.ReferenceIdeal.sig (Elt Ideal)) (x : IVec Cert.KernelIdeal.S16384 32)
    (il : FVec Ideal Cert.KernelIdeal.S16384 .f32) (prior : FVec Ideal Cert.KernelIdeal.S1000 .f32)
    (hx : V (Proc.devRef .tc Cert.ReferenceIdeal.main_arg0) = x) (hl : V (Proc.devRef .tc Cert.ReferenceIdeal.main_arg1) = il) (hp : V (Proc.devRef .tc Cert.ReferenceIdeal.main_arg3) = prior)
    (hd : Cert.Pre_drawn.Drawn x il prior) (n : Fin 16384) :
    select (cmpf .oeq il (broadcastInDim Cert.ReferenceIdeal.S16384 ![] Cert.ReferenceIdeal.Facts₀.bcast_S_S16384 (constant Cert.ReferenceIdeal.S_ .f32 0x3F800000#32))) x
      (fun j => (Host.argReduce Cert.ReferenceIdeal.reducer_argmax_f32_i32 (Cert.ReferenceIdeal.Value.res_main_v54 V) (Cert.ReferenceIdeal.Value.res_main_call3_v0 V)
        (Cert.ReferenceIdeal.Value.res_main_call3_cst V) (Cert.ReferenceIdeal.Value.res_main_call3_c V) Cert.ReferenceIdeal.Facts₀.reducesTo_S16384x1000_S16384_d1 Cert.ReferenceIdeal.Facts₀.h_S_ j).2) (ix1 n)
      = Cert.KernelIdeal.Value.row x il prior n := by
  obtain ⟨X, hX, hxn⟩ := hd.clean n
  obtain ⟨l, hln⟩ := hd.level n
  obtain ⟨p0, hpn⟩ := hd.prob
  have hs : ∀ y : IVec Cert.ReferenceIdeal.S16384 32,
      select (cmpf .oeq il (broadcastInDim Cert.ReferenceIdeal.S16384 ![] Cert.ReferenceIdeal.Facts₀.bcast_S_S16384 (constant Cert.ReferenceIdeal.S_ .f32 0x3F800000#32))) x y (ix1 n)
        = if (show EReal from il (ix1 n)) = 1 then x (ix1 n) else y (ix1 n) := by
    intro y
    pointwise
  rw [hs]
  by_cases h1 : (show EReal from il (ix1 n)) = 1
  · rw [if_pos h1, row_one x il prior n h1]
  · rw [if_neg h1]
    have h1' : (l : EReal) ≠ 1 := fun e => h1 (hln.trans e)
    obtain ⟨W, hW, hF⟩ := row_first x il prior n hX hxn hln (hpn 0) h1'
    rw [hW]
    refine Cert.ReferenceIdeal.Value.argmax_at (Cert.ReferenceIdeal.Value.res_main_v54 V) n (Gumbel.score n X l p0) W (fun c => ?_) hF
    rw [Cert.ReferenceIdeal.Value.score_at V n X hX p0 c (by rw [hx]; exact hxn) (by rw [hp]; exact hpn c), hl, hln]

end Cert.Proof
-- ==== Proof.lean ====
/- The certificate's claim, put together: the two programs' frames are the generated ones, the reference's is its run;
   the kernel's result and the reference's are equal row by row (Proof/Equal.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged, and its counters end at zero: it declares no semaphore. -/
theorem frame_reference : Cert.quiescent_ReferenceIdeal := fun m g _ =>
  θ_run_mono (Cert.ReferenceIdeal.Value.run m g) fun r h => ⟨fun c => (h c).2, sem_eq_zero_of_no_sems (by decide) r.2⟩

/-- An index of the result is its row. -/
theorem index_row (j : Cert.KernelIdeal.S16384.Idx) : ∃ n : Fin 16384, j = ix1 n :=
  ⟨j 0, by funext b; have hb : b = 0 := Subsingleton.elim _ _; subst hb; rfl⟩

set_option maxRecDepth 16384 in
/-- The kernel's result is the reference's. -/
theorem equal : Cert.algebraic_KernelIdeal_ReferenceIdeal_pre_drawn := by
  pair_intro
  · run_from Cert.KernelIdeal.Value.run m g
  · run_from Cert.ReferenceIdeal.Value.run m' g'
    refine funext fun j => ?_
    obtain ⟨n, rfl⟩ := index_row j
    refine (rows_eq (StableHlo.launchContents m' c) _ _ _ (hagree c).1 (hagree c).2.1 (hagree c).2.2.2 (Cert.Pre_drawn.drawn_of_fn _ _ _ _ (hpre c)) n).trans ?_
    exact (Cert.KernelIdeal.Value.rows_at _ _ _ n).symm

/-- Everything claimed. -/
theorem claim : Cert.Claim :=
  ⟨Cert.Kernel.Gen.facts, Cert.KernelIdeal.Gen.facts, Cert.ReferenceIdeal.Gen.facts, Cert.Pre_drawn.facts,
    fun m ρ _ => Cert.Kernel.Gen.frame m ρ, fun m ρ _ => Cert.KernelIdeal.Gen.frame m ρ, fun m ρ _ => Cert.KernelIdeal.Gen.frame m ρ,
    frame_reference, fun m g _ => frame_reference m g trivial, trivial, equal⟩

end Cert.Proof

end
